-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S256x2x1024 Cert.KernelIdeal.S256x1x1024
  ∧ IdealRules.bf16_pair.HalfStatement Cert.KernelIdeal.S256x1024
  ∧ IdealRules.bf16_pair.Statement Cert.KernelIdeal.S256x2x1024 Cert.KernelIdeal.S256x1x1024
  ∧ IdealRules.bf16_pair.Statement Cert.KernelIdeal.S1x2x512 Cert.KernelIdeal.S1x1x512
  ∧ IdealRules.bf16_pair.Statement Cert.KernelIdeal.S256x512 Cert.KernelIdeal.S128x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1280x16384 : Shape := ⟨3, ![6, 1280, 16384]⟩
abbrev S2048x8192 : Shape := ⟨2, ![2048, 8192]⟩
abbrev S2048x256 : Shape := ⟨2, ![2048, 256]⟩
abbrev S2048 : Shape := ⟨1, ![2048]⟩
abbrev S1 : Shape := ⟨1, ![1]⟩
abbrev S7680x16384 : Shape := ⟨2, ![7680, 16384]⟩
abbrev S1x2048 : Shape := ⟨2, ![1, 2048]⟩
abbrev S7680x2048 : Shape := ⟨2, ![7680, 2048]⟩
abbrev S480x2048 : Shape := ⟨2, ![480, 2048]⟩
abbrev S1024x1024 : Shape := ⟨2, ![1024, 1024]⟩
abbrev S1024x256 : Shape := ⟨2, ![1024, 256]⟩
abbrev S1x1024 : Shape := ⟨2, ![1, 1024]⟩
abbrev S480x1024 : Shape := ⟨2, ![480, 1024]⟩
abbrev S16x480x1024 : Shape := ⟨3, ![16, 480, 1024]⟩
abbrev S2048x1024 : Shape := ⟨2, ![2048, 1024]⟩
abbrev S256x1024 : Shape := ⟨2, ![256, 1024]⟩
abbrev S512x128 : Shape := ⟨2, ![512, 128]⟩
abbrev S128x512 : Shape := ⟨2, ![128, 512]⟩
abbrev S256x512 : Shape := ⟨2, ![256, 512]⟩
abbrev S1x512 : Shape := ⟨2, ![1, 512]⟩
abbrev S32x512 : Shape := ⟨2, ![32, 512]⟩
abbrev S1x480x1024 : Shape := ⟨3, ![1, 480, 1024]⟩
abbrev S6x1280x2048 : Shape := ⟨3, ![6, 1280, 2048]⟩

abbrev nBuf : Space → Nat
  | .hbm => 9
  | .vmem => 13
  | .smem => 1
  | _ => 0

abbrev bufTy : (tb : Table) → Fin (tcTables nBuf tb) → BufTy
  | .hbm, ⟨0, _⟩ => ⟨S6x1280x16384, .bf16⟩
  | .hbm, ⟨1, _⟩ => ⟨S2048x8192, .i8⟩
  | .hbm, ⟨2, _⟩ => ⟨S2048x256, .i8⟩
  | .hbm, ⟨3, _⟩ => ⟨S2048, .f32⟩
  | .hbm, ⟨4, _⟩ => ⟨S1, .f32⟩
  | .hbm, ⟨5, _⟩ => ⟨S7680x16384, .bf16⟩
  | .hbm, ⟨6, _⟩ => ⟨S1x2048, .f32⟩
  | .hbm, ⟨7, _⟩ => ⟨S7680x2048, .bf16⟩
  | .hbm, ⟨8, _⟩ => ⟨S6x1280x2048, .bf16⟩
  | .local _ .vmem, ⟨0, _⟩ => ⟨S480x2048, .bf16⟩
  | .local _ .vmem, ⟨1, _⟩ => ⟨S480x2048, .bf16⟩
  | .local _ .vmem, ⟨2, _⟩ => ⟨S1024x1024, .i8⟩
  | .local _ .vmem, ⟨3, _⟩ => ⟨S1024x1024, .i8⟩
  | .local _ .vmem, ⟨4, _⟩ => ⟨S1024x256, .i8⟩
  | .local _ .vmem, ⟨5, _⟩ => ⟨S1024x256, .i8⟩
  | .local _ .vmem, ⟨6, _⟩ => ⟨S1x1024, .f32⟩
  | .local _ .vmem, ⟨7, _⟩ => ⟨S1x1024, .f32⟩
  | .local _ .vmem, ⟨8, _⟩ => ⟨S480x1024, .bf16⟩
  | .local _ .vmem, ⟨9, _⟩ => ⟨S480x1024, .bf16⟩
  | .local _ .vmem, ⟨10, _⟩ => ⟨S16x480x1024, .f32⟩
  | .local _ .vmem, ⟨11, _⟩ => ⟨S2048x1024, .bf16⟩
  | .local _ .vmem, ⟨12, _⟩ => ⟨S256x1024, .i32⟩
  | .local _ .smem, ⟨0, _⟩ => ⟨S1, .f32⟩
  | _, _ => ⟨S6x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨3, ![2, 8, 16], ![false, false, false]⟩

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) (c0_i32_34 : BitVec 32) : Fin 2 → Nat :=
  let arg1 : BitVec 32 := BitVec.ofNat 32 (i 1).val
  let c32_i32 : BitVec 32 := 32#32
  let v22 : BitVec 32 := Scalar.muli arg1 c32_i32
  let v23 : BitVec 32 := Scalar.addi v22 c0_i32_14
  let v79 : BitVec 32 := Scalar.addi v23 c0_i32_34
  let v80 : Index := Scalar.indexCast v79
  let c0_35 : Index := 0#32
  ![v80.toNat, 0]
def k0_off2 (i : grid0.Coords) (c0_i32_43 : BitVec 32) (c0_i32_70 : BitVec 32) : Fin 2 → Nat :=
  let arg1 : BitVec 32 := BitVec.ofNat 32 (i 1).val
  let c32_i32_42 : BitVec 32 := 32#32
  let v102 : BitVec 32 := Scalar.muli arg1 c32_i32_42
  let v103 : BitVec 32 := Scalar.addi v102 c0_i32_43
  let v159 : BitVec 32 := Scalar.addi v103 c0_i32_70
  let v160 : Index := Scalar.indexCast v159
  let c512_71 : Index := 512#32
  ![v160.toNat, 512]
def k0_cond3 (i : grid0.Coords) : BitVec 1 :=
  let arg1 : BitVec 32 := BitVec.ofNat 32 (i 1).val
  let c0_i32_7 : BitVec 32 := 0#32
  let v12 : BitVec 1 := Scalar.cmpi .eq arg1 c0_i32_7
  let v13 : BitVec 32 := Scalar.extui v12
  let c0_i32_8 : BitVec 32 := 0#32
  let v14 : BitVec 1 := Scalar.cmpi .ne v13 c0_i32_8
  v14

def k0_off3 (i : grid0.Coords) : Fin 3 → Nat :=
  let arg2 : BitVec 32 := BitVec.ofNat 32 (i 2).val
  let v21 : Index := Scalar.indexCast arg2
  let c0_12 : Index := 0#32
  let c0_13 : Index := 0#32
  ![v21.toNat, 0, 0]
def k0_cond4 (i : grid0.Coords) : BitVec 1 :=
  let arg1 : BitVec 32 := BitVec.ofNat 32 (i 1).val
  let c0_i32_9 : BitVec 32 := 0#32
  let v15 : BitVec 1 := Scalar.cmpi .sgt arg1 c0_i32_9
  let v16 : BitVec 32 := Scalar.extui v15
  let c0_i32_10 : BitVec 32 := 0#32
  let v17 : BitVec 1 := Scalar.cmpi .ne v16 c0_i32_10
  v17

def k0_off4 (i : grid0.Coords) : Fin 3 → Nat :=
  let arg2 : BitVec 32 := BitVec.ofNat 32 (i 2).val
  let v21 : Index := Scalar.indexCast arg2
  let c0_12 : Index := 0#32
  let c0_13 : Index := 0#32
  ![v21.toNat, 0, 0]
def k0_cond5 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def k0_off5 (i : grid0.Coords) : Fin 3 → Nat :=
  let arg2 : BitVec 32 := BitVec.ofNat 32 (i 2).val
  let v21 : Index := Scalar.indexCast arg2
  let c0_12 : Index := 0#32
  let c0_13 : Index := 0#32
  ![v21.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  ![v1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S480x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S480x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
abbrev S6x1280x16384 : Shape := ⟨3, ![6, 1280, 16384]⟩
abbrev S2048x8192 : Shape := ⟨2, ![2048, 8192]⟩
abbrev S2048x256 : Shape := ⟨2, ![2048, 256]⟩
abbrev S2048 : Shape := ⟨1, ![2048]⟩
abbrev S1 : Shape := ⟨1, ![1]⟩
abbrev S7680x16384 : Shape := ⟨2, ![7680, 16384]⟩
abbrev S1x2048 : Shape := ⟨2, ![1, 2048]⟩
abbrev S7680x2048 : Shape := ⟨2, ![7680, 2048]⟩
abbrev S480x2048 : Shape := ⟨2, ![480, 2048]⟩
abbrev S1024x1024 : Shape := ⟨2, ![1024, 1024]⟩
abbrev S1024x256 : Shape := ⟨2, ![1024, 256]⟩
abbrev S1x1024 : Shape := ⟨2, ![1, 1024]⟩
abbrev S480x1024 : Shape := ⟨2, ![480, 1024]⟩
abbrev S16x480x1024 : Shape := ⟨3, ![16, 480, 1024]⟩
abbrev S2048x1024 : Shape := ⟨2, ![2048, 1024]⟩
abbrev S256x1024 : Shape := ⟨2, ![256, 1024]⟩
abbrev S256x2x1024 : Shape := ⟨3, ![256, 2, 1024]⟩
abbrev S256x1x1024 : Shape := ⟨3, ![256, 1, 1024]⟩
abbrev S512x128 : Shape := ⟨2, ![512, 128]⟩
abbrev S128x512 : Shape := ⟨2, ![128, 512]⟩
abbrev S256x512 : Shape := ⟨2, ![256, 512]⟩
abbrev S1x512 : Shape := ⟨2, ![1, 512]⟩
abbrev S1x2x512 : Shape := ⟨3, ![1, 2, 512]⟩
abbrev S1x1x512 : Shape := ⟨3, ![1, 1, 512]⟩
abbrev S32x512 : Shape := ⟨2, ![32, 512]⟩
abbrev S1x480x1024 : Shape := ⟨3, ![1, 480, 1024]⟩
abbrev S6x1280x2048 : Shape := ⟨3, ![6, 1280, 2048]⟩

abbrev nBuf : Space → Nat
  | .hbm => 9
  | .vmem => 13
  | .smem => 1
  | _ => 0

abbrev bufTy : (tb : Table) → Fin (tcTables nBuf tb) → BufTy
  | .hbm, ⟨0, _⟩ => ⟨S6x1280x16384, .bf16⟩
  | .hbm, ⟨1, _⟩ => ⟨S2048x8192, .i8⟩
  | .hbm, ⟨2, _⟩ => ⟨S2048x256, .i8⟩
  | .hbm, ⟨3, _⟩ => ⟨S2048, .f32⟩
  | .hbm, ⟨4, _⟩ => ⟨S1, .f32⟩
  | .hbm, ⟨5, _⟩ => ⟨S7680x16384, .bf16⟩
  | .hbm, ⟨6, _⟩ => ⟨S1x2048, .f32⟩
  | .hbm, ⟨7, _⟩ => ⟨S7680x2048, .bf16⟩
  | .hbm, ⟨8, _⟩ => ⟨S6x1280x2048, .bf16⟩
  | .local _ .vmem, ⟨0, _⟩ => ⟨S480x2048, .bf16⟩
  | .local _ .vmem, ⟨1, _⟩ => ⟨S480x2048, .bf16⟩
  | .local _ .vmem, ⟨2, _⟩ => ⟨S1024x1024, .i8⟩
  | .local _ .vmem, ⟨3, _⟩ => ⟨S1024x1024, .i8⟩
  | .local _ .vmem, ⟨4, _⟩ => ⟨S1024x256, .i8⟩
  | .local _ .vmem, ⟨5, _⟩ => ⟨S1024x256, .i8⟩
  | .local _ .vmem, ⟨6, _⟩ => ⟨S1x1024, .f32⟩
  | .local _ .vmem, ⟨7, _⟩ => ⟨S1x1024, .f32⟩
  | .local _ .vmem, ⟨8, _⟩ => ⟨S480x1024, .bf16⟩
  | .local _ .vmem, ⟨9, _⟩ => ⟨S480x1024, .bf16⟩
  | .local _ .vmem, ⟨10, _⟩ => ⟨S16x480x1024, .f32⟩
  | .local _ .vmem, ⟨11, _⟩ => ⟨S2048x1024, .bf16⟩
  | .local _ .vmem, ⟨12, _⟩ => ⟨S256x2x1024, .bf16⟩
  | .local _ .smem, ⟨0, _⟩ => ⟨S1, .f32⟩
  | _, _ => ⟨S6x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 16], ![false, false, false]⟩

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) (c0_i32_34 : BitVec 32) : Fin 3 → Nat :=
  let arg1 : BitVec 32 := BitVec.ofNat 32 (i 1).val
  let c32_i32 : BitVec 32 := 32#32
  let v22 : BitVec 32 := Scalar.muli arg1 c32_i32
  let v23 : BitVec 32 := Scalar.addi v22 c0_i32_14
  let v79 : BitVec 32 := Scalar.addi v23 c0_i32_34
  let v80 : Index := Scalar.indexCast v79
  let c0_35 : Index := 0#32
  ![v80.toNat, 0, 0]
def k0_off2 (i : grid0.Coords) (c0_i32_43 : BitVec 32) (c0_i32_70 : BitVec 32) : Fin 3 → Nat :=
  let arg1 : BitVec 32 := BitVec.ofNat 32 (i 1).val
  let c32_i32_42 : BitVec 32 := 32#32
  let v102 : BitVec 32 := Scalar.muli arg1 c32_i32_42
  let v103 : BitVec 32 := Scalar.addi v102 c0_i32_43
  let v159 : BitVec 32 := Scalar.addi v103 c0_i32_70
  let v160 : Index := Scalar.indexCast v159
  let c512_71 : Index := 512#32
  ![v160.toNat, 0, 512]
def k0_cond3 (i : grid0.Coords) : BitVec 1 :=
  let arg1 : BitVec 32 := BitVec.ofNat 32 (i 1).val
  let c0_i32_7 : BitVec 32 := 0#32
  let v12 : BitVec 1 := Scalar.cmpi .eq arg1 c0_i32_7
  let v13 : BitVec 32 := Scalar.extui v12
  let c0_i32_8 : BitVec 32 := 0#32
  let v14 : BitVec 1 := Scalar.cmpi .ne v13 c0_i32_8
  v14

def k0_off3 (i : grid0.Coords) : Fin 3 → Nat :=
  let arg2 : BitVec 32 := BitVec.ofNat 32 (i 2).val
  let v21 : Index := Scalar.indexCast arg2
  let c0_12 : Index := 0#32
  let c0_13 : Index := 0#32
  ![v21.toNat, 0, 0]
def k0_cond4 (i : grid0.Coords) : BitVec 1 :=
  let arg1 : BitVec 32 := BitVec.ofNat 32 (i 1).val
  let c0_i32_9 : BitVec 32 := 0#32
  let v15 : BitVec 1 := Scalar.cmpi .sgt arg1 c0_i32_9
  let v16 : BitVec 32 := Scalar.extui v15
  let c0_i32_10 : BitVec 32 := 0#32
  let v17 : BitVec 1 := Scalar.cmpi .ne v16 c0_i32_10
  v17

def k0_off4 (i : grid0.Coords) : Fin 3 → Nat :=
  let arg2 : BitVec 32 := BitVec.ofNat 32 (i 2).val
  let v21 : Index := Scalar.indexCast arg2
  let c0_12 : Index := 0#32
  let c0_13 : Index := 0#32
  ![v21.toNat, 0, 0]
def k0_cond5 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def k0_off5 (i : grid0.Coords) : Fin 3 → Nat :=
  let arg2 : BitVec 32 := BitVec.ofNat 32 (i 2).val
  let v21 : Index := Scalar.indexCast arg2
  let c0_12 : Index := 0#32
  let c0_13 : Index := 0#32
  ![v21.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  ![v1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S480x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S480x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S6x1280x16384 : Shape := ⟨3, ![6, 1280, 16384]⟩
abbrev S2048x8192 : Shape := ⟨2, ![2048, 8192]⟩
abbrev S2048x256 : Shape := ⟨2, ![2048, 256]⟩
abbrev S2048 : Shape := ⟨1, ![2048]⟩
abbrev S1 : Shape := ⟨1, ![1]⟩
abbrev S2048x1 : Shape := ⟨2, ![2048, 1]⟩
abbrev S_ : Shape := ⟨0, ![]⟩
abbrev S2048x8192x1 : Shape := ⟨3, ![2048, 8192, 1]⟩
abbrev S2048x8192x2 : Shape := ⟨3, ![2048, 8192, 2]⟩
abbrev S2048x16384 : Shape := ⟨2, ![2048, 16384]⟩
abbrev S2048x256x64 : Shape := ⟨3, ![2048, 256, 64]⟩
abbrev S2048x256x1 : Shape := ⟨3, ![2048, 256, 1]⟩
abbrev S6x1280x2048 : Shape := ⟨3, ![6, 1280, 2048]⟩

abbrev nBuf : Space → Nat
  | .hbm => 214
  | .vmem => 0
  | .smem => 0
  | _ => 0

abbrev hbmTy0_0 (i : Nat) : BufTy := match i % 128 with
  | 0 => ⟨S6x1280x16384, .bf16⟩
  | 1 => ⟨S2048x8192, .i8⟩
  | 2 => ⟨S2048x256, .i8⟩
  | 3 => ⟨S2048, .f32⟩
  | 4 => ⟨S1, .f32⟩
  | 5 => ⟨S2048x256, .i32⟩
  | 6 => ⟨S2048x256, .f32⟩
  | 7 => ⟨S2048x1, .f32⟩
  | 8 => ⟨S2048x256, .f32⟩
  | 9 => ⟨S2048x256, .f32⟩
  | 10 => ⟨S_, .f32⟩
  | 11 => ⟨S2048x256, .f32⟩
  | 12 => ⟨S2048x256, .f32⟩
  | 13 => ⟨S2048x256, .bf16⟩
  | 14 => ⟨S2048x8192, .i32⟩
  | 15 => ⟨S_, .i32⟩
  | 16 => ⟨S2048x8192, .i32⟩
  | 17 => ⟨S2048x8192, .i32⟩
  | 18 => ⟨S_, .i32⟩
  | 19 => ⟨S2048x8192, .i32⟩
  | 20 => ⟨S2048x8192, .i32⟩
  | 21 => ⟨S2048x8192x1, .i32⟩
  | 22 => ⟨S2048x8192x1, .i32⟩
  | 23 => ⟨S2048x8192x2, .i32⟩
  | 24 => ⟨S2048x16384, .i32⟩
  | 25 => ⟨S_, .i32⟩
  | 26 => ⟨S2048x16384, .i32⟩
  | 27 => ⟨S2048x16384, .i32⟩
  | 28 => ⟨S_, .i32⟩
  | 29 => ⟨S2048x16384, .i32⟩
  | 30 => ⟨S2048x16384, .i32⟩
  | 31 => ⟨S_, .i32⟩
  | 32 => ⟨S2048x16384, .i32⟩
  | 33 => ⟨S2048x16384, .i1⟩
  | 34 => ⟨S_, .i32⟩
  | 35 => ⟨S2048x16384, .i32⟩
  | 36 => ⟨S2048x16384, .i32⟩
  | 37 => ⟨S_, .i32⟩
  | 38 => ⟨S2048x16384, .i32⟩
  | 39 => ⟨S2048x16384, .i32⟩
  | 40 => ⟨S_, .i32⟩
  | 41 => ⟨S2048x16384, .i32⟩
  | 42 => ⟨S2048x16384, .i1⟩
  | 43 => ⟨S_, .i32⟩
  | 44 => ⟨S2048x16384, .i32⟩
  | 45 => ⟨S2048x16384, .i32⟩
  | 46 => ⟨S_, .i32⟩
  | 47 => ⟨S2048x16384, .i32⟩
  | 48 => ⟨S2048x16384, .i32⟩
  | 49 => ⟨S_, .i32⟩
  | 50 => ⟨S2048x16384, .i32⟩
  | 51 => ⟨S2048x16384, .i1⟩
  | 52 => ⟨S_, .i32⟩
  | 53 => ⟨S2048x16384, .i32⟩
  | 54 => ⟨S2048x16384, .i32⟩
  | 55 => ⟨S_, .i32⟩
  | 56 => ⟨S2048x16384, .i32⟩
  | 57 => ⟨S2048x16384, .i32⟩
  | 58 => ⟨S_, .i32⟩
  | 59 => ⟨S2048x16384, .i32⟩
  | 60 => ⟨S2048x16384, .i1⟩
  | 61 => ⟨S_, .bf16⟩
  | 62 => ⟨S_, .bf16⟩
  | 63 => ⟨S2048x16384, .bf16⟩
  | 64 => ⟨S2048x16384, .bf16⟩
  | 65 => ⟨S2048x16384, .bf16⟩
  | 66 => ⟨S_, .i32⟩
  | 67 => ⟨S2048x16384, .i32⟩
  | 68 => ⟨S2048x16384, .i32⟩
  | 69 => ⟨S_, .i32⟩
  | 70 => ⟨S2048x16384, .i32⟩
  | 71 => ⟨S2048x16384, .i32⟩
  | 72 => ⟨S_, .i32⟩
  | 73 => ⟨S2048x16384, .i32⟩
  | 74 => ⟨S2048x16384, .i1⟩
  | 75 => ⟨S_, .bf16⟩
  | 76 => ⟨S_, .bf16⟩
  | 77 => ⟨S2048x16384, .bf16⟩
  | 78 => ⟨S2048x16384, .bf16⟩
  | 79 => ⟨S2048x16384, .bf16⟩
  | 80 => ⟨S2048x16384, .bf16⟩
  | 81 => ⟨S_, .i32⟩
  | 82 => ⟨S2048x16384, .i32⟩
  | 83 => ⟨S2048x16384, .i32⟩
  | 84 => ⟨S_, .i32⟩
  | 85 => ⟨S2048x16384, .i32⟩
  | 86 => ⟨S2048x16384, .i32⟩
  | 87 => ⟨S_, .i32⟩
  | 88 => ⟨S2048x16384, .i32⟩
  | 89 => ⟨S2048x16384, .i1⟩
  | 90 => ⟨S_, .i32⟩
  | 91 => ⟨S2048x16384, .i32⟩
  | 92 => ⟨S2048x16384, .i32⟩
  | 93 => ⟨S_, .i32⟩
  | 94 => ⟨S2048x16384, .i32⟩
  | 95 => ⟨S2048x16384, .i32⟩
  | 96 => ⟨S_, .i32⟩
  | 97 => ⟨S2048x16384, .i32⟩
  | 98 => ⟨S2048x16384, .i1⟩
  | 99 => ⟨S_, .bf16⟩
  | 100 => ⟨S_, .bf16⟩
  | 101 => ⟨S2048x16384, .bf16⟩
  | 102 => ⟨S2048x16384, .bf16⟩
  | 103 => ⟨S2048x16384, .bf16⟩
  | 104 => ⟨S_, .i32⟩
  | 105 => ⟨S2048x16384, .i32⟩
  | 106 => ⟨S2048x16384, .i32⟩
  | 107 => ⟨S_, .i32⟩
  | 108 => ⟨S2048x16384, .i32⟩
  | 109 => ⟨S2048x16384, .i32⟩
  | 110 => ⟨S_, .i32⟩
  | 111 => ⟨S2048x16384, .i32⟩
  | 112 => ⟨S2048x16384, .i1⟩
  | 113 => ⟨S_, .bf16⟩
  | 114 => ⟨S_, .bf16⟩
  | 115 => ⟨S2048x16384, .bf16⟩
  | 116 => ⟨S2048x16384, .bf16⟩
  | 117 => ⟨S2048x16384, .bf16⟩
  | 118 => ⟨S2048x16384, .bf16⟩
  | 119 => ⟨S2048x16384, .bf16⟩
  | 120 => ⟨S_, .i32⟩
  | 121 => ⟨S2048x16384, .i32⟩
  | 122 => ⟨S2048x16384, .i32⟩
  | 123 => ⟨S_, .i32⟩
  | 124 => ⟨S2048x16384, .i32⟩
  | 125 => ⟨S2048x16384, .i32⟩
  | 126 => ⟨S_, .i32⟩
  | 127 => ⟨S2048x16384, .i32⟩
  | _ => ⟨S6x1280x16384, .bf16⟩

abbrev hbmTy0_1 (i : Nat) : BufTy := match i % 128 with
  | 0 => ⟨S2048x16384, .i1⟩
  | 1 => ⟨S_, .i32⟩
  | 2 => ⟨S2048x16384, .i32⟩
  | 3 => ⟨S2048x16384, .i32⟩
  | 4 => ⟨S_, .i32⟩
  | 5 => ⟨S2048x16384, .i32⟩
  | 6 => ⟨S2048x16384, .i32⟩
  | 7 => ⟨S_, .i32⟩
  | 8 => ⟨S2048x16384, .i32⟩
  | 9 => ⟨S2048x16384, .i1⟩
  | 10 => ⟨S_, .i32⟩
  | 11 => ⟨S2048x16384, .i32⟩
  | 12 => ⟨S2048x16384, .i32⟩
  | 13 => ⟨S_, .i32⟩
  | 14 => ⟨S2048x16384, .i32⟩
  | 15 => ⟨S2048x16384, .i32⟩
  | 16 => ⟨S_, .i32⟩
  | 17 => ⟨S2048x16384, .i32⟩
  | 18 => ⟨S2048x16384, .i1⟩
  | 19 => ⟨S_, .bf16⟩
  | 20 => ⟨S_, .bf16⟩
  | 21 => ⟨S2048x16384, .bf16⟩
  | 22 => ⟨S2048x16384, .bf16⟩
  | 23 => ⟨S2048x16384, .bf16⟩
  | 24 => ⟨S_, .i32⟩
  | 25 => ⟨S2048x16384, .i32⟩
  | 26 => ⟨S2048x16384, .i32⟩
  | 27 => ⟨S_, .i32⟩
  | 28 => ⟨S2048x16384, .i32⟩
  | 29 => ⟨S2048x16384, .i32⟩
  | 30 => ⟨S_, .i32⟩
  | 31 => ⟨S2048x16384, .i32⟩
  | 32 => ⟨S2048x16384, .i1⟩
  | 33 => ⟨S_, .bf16⟩
  | 34 => ⟨S_, .bf16⟩
  | 35 => ⟨S2048x16384, .bf16⟩
  | 36 => ⟨S2048x16384, .bf16⟩
  | 37 => ⟨S2048x16384, .bf16⟩
  | 38 => ⟨S2048x16384, .bf16⟩
  | 39 => ⟨S_, .i32⟩
  | 40 => ⟨S2048x16384, .i32⟩
  | 41 => ⟨S2048x16384, .i32⟩
  | 42 => ⟨S_, .i32⟩
  | 43 => ⟨S2048x16384, .i32⟩
  | 44 => ⟨S2048x16384, .i32⟩
  | 45 => ⟨S_, .i32⟩
  | 46 => ⟨S2048x16384, .i32⟩
  | 47 => ⟨S2048x16384, .i1⟩
  | 48 => ⟨S_, .i32⟩
  | 49 => ⟨S2048x16384, .i32⟩
  | 50 => ⟨S2048x16384, .i32⟩
  | 51 => ⟨S_, .i32⟩
  | 52 => ⟨S2048x16384, .i32⟩
  | 53 => ⟨S2048x16384, .i32⟩
  | 54 => ⟨S_, .i32⟩
  | 55 => ⟨S2048x16384, .i32⟩
  | 56 => ⟨S2048x16384, .i1⟩
  | 57 => ⟨S_, .bf16⟩
  | 58 => ⟨S_, .bf16⟩
  | 59 => ⟨S2048x16384, .bf16⟩
  | 60 => ⟨S2048x16384, .bf16⟩
  | 61 => ⟨S2048x16384, .bf16⟩
  | 62 => ⟨S_, .i32⟩
  | 63 => ⟨S2048x16384, .i32⟩
  | 64 => ⟨S2048x16384, .i32⟩
  | 65 => ⟨S_, .i32⟩
  | 66 => ⟨S2048x16384, .i32⟩
  | 67 => ⟨S2048x16384, .i32⟩
  | 68 => ⟨S_, .i32⟩
  | 69 => ⟨S2048x16384, .i32⟩
  | 70 => ⟨S2048x16384, .i1⟩
  | 71 => ⟨S_, .bf16⟩
  | 72 => ⟨S_, .bf16⟩
  | 73 => ⟨S2048x16384, .bf16⟩
  | 74 => ⟨S2048x16384, .bf16⟩
  | 75 => ⟨S2048x16384, .bf16⟩
  | 76 => ⟨S2048x16384, .bf16⟩
  | 77 => ⟨S2048x16384, .bf16⟩
  | 78 => ⟨S2048x16384, .bf16⟩
  | 79 => ⟨S2048x256x64, .bf16⟩
  | 80 => ⟨S2048x256x1, .bf16⟩
  | 81 => ⟨S2048x256x64, .bf16⟩
  | 82 => ⟨S2048x256x64, .bf16⟩
  | 83 => ⟨S2048x16384, .bf16⟩
  | 84 => ⟨S6x1280x2048, .f32⟩
  | 85 => ⟨S6x1280x2048, .bf16⟩
  | _ => ⟨S6x1280x16384, .bf16⟩

abbrev hbmTy (i : Nat) : BufTy := match i / 128 with
  | 0 => hbmTy0_0 i
  | 1 => hbmTy0_1 i
  | _ => ⟨S6x1280x16384, .bf16⟩

abbrev bufTy : (tb : Table) → Fin (tcTables nBuf tb) → BufTy
  | .hbm, ⟨i, _⟩ => hbmTy i
  | _, _ => ⟨S6x1280x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_c_12 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_cst_13 : Ref sig .tc := ⟨.hbm, 62, rfl⟩
abbrev main_call0_v0 : Ref sig .tc := ⟨.hbm, 63, rfl⟩
abbrev main_call0_v1 : Ref sig .tc := ⟨.hbm, 64, rfl⟩
abbrev main_v42 : Ref sig .tc := ⟨.hbm, 65, rfl⟩
abbrev main_c_14 : Ref sig .tc := ⟨.hbm, 66, rfl⟩
abbrev main_v43 : Ref sig .tc := ⟨.hbm, 67, rfl⟩
abbrev main_v44 : Ref sig .tc := ⟨.hbm, 68, rfl⟩
abbrev main_c_15 : Ref sig .tc := ⟨.hbm, 69, rfl⟩
abbrev main_v45 : Ref sig .tc := ⟨.hbm, 70, rfl⟩
abbrev main_v46 : Ref sig .tc := ⟨.hbm, 71, rfl⟩
abbrev main_c_16 : Ref sig .tc := ⟨.hbm, 72, rfl⟩
abbrev main_v47 : Ref sig .tc := ⟨.hbm, 73, rfl⟩
abbrev main_v48 : Ref sig .tc := ⟨.hbm, 74, rfl⟩
abbrev main_cst_17 : Ref sig .tc := ⟨.hbm, 75, rfl⟩
abbrev main_cst_18 : Ref sig .tc := ⟨.hbm, 76, rfl⟩
abbrev main_call1_v0 : Ref sig .tc := ⟨.hbm, 77, rfl⟩
abbrev main_call1_v1 : Ref sig .tc := ⟨.hbm, 78, rfl⟩
abbrev main_v49 : Ref sig .tc := ⟨.hbm, 79, rfl⟩
abbrev main_v50 : Ref sig .tc := ⟨.hbm, 80, rfl⟩
abbrev main_c_19 : Ref sig .tc := ⟨.hbm, 81, rfl⟩
abbrev main_v51 : Ref sig .tc := ⟨.hbm, 82, rfl⟩
abbrev main_v52 : Ref sig .tc := ⟨.hbm, 83, rfl⟩
abbrev main_c_20 : Ref sig .tc := ⟨.hbm, 84, rfl⟩
abbrev main_v53 : Ref sig .tc := ⟨.hbm, 85, rfl⟩
abbrev main_v54 : Ref sig .tc := ⟨.hbm, 86, rfl⟩
abbrev main_c_21 : Ref sig .tc := ⟨.hbm, 87, rfl⟩
abbrev main_v55 : Ref sig .tc := ⟨.hbm, 88, rfl⟩
abbrev main_v56 : Ref sig .tc := ⟨.hbm, 89, rfl⟩
abbrev main_c_22 : Ref sig .tc := ⟨.hbm, 90, rfl⟩
abbrev main_v57 : Ref sig .tc := ⟨.hbm, 91, rfl⟩
abbrev main_v58 : Ref sig .tc := ⟨.hbm, 92, rfl⟩
abbrev main_c_23 : Ref sig .tc := ⟨.hbm, 93, rfl⟩
abbrev main_v59 : Ref sig .tc := ⟨.hbm, 94, rfl⟩
abbrev main_v60 : Ref sig .tc := ⟨.hbm, 95, rfl⟩
abbrev main_c_24 : Ref sig .tc := ⟨.hbm, 96, rfl⟩
abbrev main_v61 : Ref sig .tc := ⟨.hbm, 97, rfl⟩
abbrev main_v62 : Ref sig .tc := ⟨.hbm, 98, rfl⟩
abbrev main_cst_25 : Ref sig .tc := ⟨.hbm, 99, rfl⟩
abbrev main_cst_26 : Ref sig .tc := ⟨.hbm, 100, rfl⟩
abbrev main_call3_v0 : Ref sig .tc := ⟨.hbm, 101, rfl⟩
abbrev main_call3_v1 : Ref sig .tc := ⟨.hbm, 102, rfl⟩
abbrev main_v63 : Ref sig .tc := ⟨.hbm, 103, rfl⟩
abbrev main_c_27 : Ref sig .tc := ⟨.hbm, 104, rfl⟩
abbrev main_v64 : Ref sig .tc := ⟨.hbm, 105, rfl⟩
abbrev main_v65 : Ref sig .tc := ⟨.hbm, 106, rfl⟩
abbrev main_c_28 : Ref sig .tc := ⟨.hbm, 107, rfl⟩
abbrev main_v66 : Ref sig .tc := ⟨.hbm, 108, rfl⟩
abbrev main_v67 : Ref sig .tc := ⟨.hbm, 109, rfl⟩
abbrev main_c_29 : Ref sig .tc := ⟨.hbm, 110, rfl⟩
abbrev main_v68 : Ref sig .tc := ⟨.hbm, 111, rfl⟩
abbrev main_v69 : Ref sig .tc := ⟨.hbm, 112, rfl⟩
abbrev main_cst_30 : Ref sig .tc := ⟨.hbm, 113, rfl⟩
abbrev main_cst_31 : Ref sig .tc := ⟨.hbm, 114, rfl⟩
abbrev main_call4_v0 : Ref sig .tc := ⟨.hbm, 115, rfl⟩
abbrev main_call4_v1 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_c_32 : Ref sig .tc := ⟨.hbm, 120, rfl⟩
abbrev main_v73 : Ref sig .tc := ⟨.hbm, 121, rfl⟩
abbrev main_v74 : Ref sig .tc := ⟨.hbm, 122, rfl⟩
abbrev main_c_33 : Ref sig .tc := ⟨.hbm, 123, rfl⟩
abbrev main_v75 : Ref sig .tc := ⟨.hbm, 124, rfl⟩
abbrev main_v76 : Ref sig .tc := ⟨.hbm, 125, rfl⟩
abbrev main_c_34 : Ref sig .tc := ⟨.hbm, 126, rfl⟩
abbrev main_v77 : Ref sig .tc := ⟨.hbm, 127, rfl⟩
abbrev main_v78 : Ref sig .tc := ⟨.hbm, 128, rfl⟩
abbrev main_c_35 : Ref sig .tc := ⟨.hbm, 129, rfl⟩
abbrev main_v79 : Ref sig .tc := ⟨.hbm, 130, rfl⟩
abbrev main_v80 : Ref sig .tc := ⟨.hbm, 131, rfl⟩
abbrev main_c_36 : Ref sig .tc := ⟨.hbm, 132, rfl⟩
abbrev main_v81 : Ref sig .tc := ⟨.hbm, 133, rfl⟩
abbrev main_v82 : Ref sig .tc := ⟨.hbm, 134, rfl⟩
abbrev main_c_37 : Ref sig .tc := ⟨.hbm, 135, rfl⟩
abbrev main_v83 : Ref sig .tc := ⟨.hbm, 136, rfl⟩
abbrev main_v84 : Ref sig .tc := ⟨.hbm, 137, rfl⟩
abbrev main_c_38 : Ref sig .tc := ⟨.hbm, 138, rfl⟩
abbrev main_v85 : Ref sig .tc := ⟨.hbm, 139, rfl⟩
abbrev main_v86 : Ref sig .tc := ⟨.hbm, 140, rfl⟩
abbrev main_c_39 : Ref sig .tc := ⟨.hbm, 141, rfl⟩
abbrev main_v87 : Ref sig .tc := ⟨.hbm, 142, rfl⟩
abbrev main_v88 : Ref sig .tc := ⟨.hbm, 143, rfl⟩
abbrev main_c_40 : Ref sig .tc := ⟨.hbm, 144, rfl⟩
abbrev main_v89 : Ref sig .tc := ⟨.hbm, 145, rfl⟩
abbrev main_v90 : Ref sig .tc := ⟨.hbm, 146, rfl⟩
abbrev main_cst_41 : Ref sig .tc := ⟨.hbm, 147, rfl⟩
abbrev main_cst_42 : Ref sig .tc := ⟨.hbm, 148, rfl⟩
abbrev main_call7_v0 : Ref sig .tc := ⟨.hbm, 149, rfl⟩
abbrev main_call7_v1 : Ref sig .tc := ⟨.hbm, 150, rfl⟩
abbrev main_v91 : Ref sig .tc := ⟨.hbm, 151, rfl⟩
abbrev main_c_43 : Ref sig .tc := ⟨.hbm, 152, rfl⟩
abbrev main_v92 : Ref sig .tc := ⟨.hbm, 153, rfl⟩
abbrev main_v93 : Ref sig .tc := ⟨.hbm, 154, rfl⟩
abbrev main_c_44 : Ref sig .tc := ⟨.hbm, 155, rfl⟩
abbrev main_v94 : Ref sig .tc := ⟨.hbm, 156, rfl⟩
abbrev main_v95 : Ref sig .tc := ⟨.hbm, 157, rfl⟩
abbrev main_c_45 : Ref sig .tc := ⟨.hbm, 158, rfl⟩
abbrev main_v96 : Ref sig .tc := ⟨.hbm, 159, rfl⟩
abbrev main_v97 : Ref sig .tc := ⟨.hbm, 160, rfl⟩
abbrev main_cst_46 : Ref sig .tc := ⟨.hbm, 161, rfl⟩
abbrev main_cst_47 : Ref sig .tc := ⟨.hbm, 162, rfl⟩
abbrev main_call8_v0 : Ref sig .tc := ⟨.hbm, 163, rfl⟩
abbrev main_call8_v1 : Ref sig .tc := ⟨.hbm, 164, rfl⟩
abbrev main_v98 : Ref sig .tc := ⟨.hbm, 165, rfl⟩
abbrev main_v99 : Ref sig .tc := ⟨.hbm, 166, rfl⟩
abbrev main_c_48 : Ref sig .tc := ⟨.hbm, 167, rfl⟩
abbrev main_v100 : Ref sig .tc := ⟨.hbm, 168, rfl⟩
abbrev main_v101 : Ref sig .tc := ⟨.hbm, 169, rfl⟩
abbrev main_c_49 : Ref sig .tc := ⟨.hbm, 170, rfl⟩
abbrev main_v102 : Ref sig .tc := ⟨.hbm, 171, rfl⟩
abbrev main_v103 : Ref sig .tc := ⟨.hbm, 172, rfl⟩
abbrev main_c_50 : Ref sig .tc := ⟨.hbm, 173, rfl⟩
abbrev main_v104 : Ref sig .tc := ⟨.hbm, 174, rfl⟩
abbrev main_v105 : Ref sig .tc := ⟨.hbm, 175, rfl⟩
abbrev main_c_51 : Ref sig .tc := ⟨.hbm, 176, rfl⟩
abbrev main_v106 : Ref sig .tc := ⟨.hbm, 177, rfl⟩
abbrev main_v107 : Ref sig .tc := ⟨.hbm, 178, rfl⟩
abbrev main_c_52 : Ref sig .tc := ⟨.hbm, 179, rfl⟩
abbrev main_v108 : Ref sig .tc := ⟨.hbm, 180, rfl⟩
abbrev main_v109 : Ref sig .tc := ⟨.hbm, 181, rfl⟩
abbrev main_c_53 : Ref sig .tc := ⟨.hbm, 182, rfl⟩
abbrev main_v110 : Ref sig .tc := ⟨.hbm, 183, rfl⟩
abbrev main_v111 : Ref sig .tc := ⟨.hbm, 184, rfl⟩
abbrev main_cst_54 : Ref sig .tc := ⟨.hbm, 185, rfl⟩
abbrev main_cst_55 : Ref sig .tc := ⟨.hbm, 186, rfl⟩
abbrev main_call10_v0 : Ref sig .tc := ⟨.hbm, 187, rfl⟩
abbrev main_call10_v1 : Ref sig .tc := ⟨.hbm, 188, rfl⟩
abbrev main_v112 : Ref sig .tc := ⟨.hbm, 189, rfl⟩
abbrev main_c_56 : Ref sig .tc := ⟨.hbm, 190, rfl⟩
abbrev main_v113 : Ref sig .tc := ⟨.hbm, 191, rfl⟩
abbrev main_v114 : Ref sig .tc := ⟨.hbm, 192, rfl⟩
abbrev main_c_57 : Ref sig .tc := ⟨.hbm, 193, rfl⟩
abbrev main_v115 : Ref sig .tc := ⟨.hbm, 194, rfl⟩
abbrev main_v116 : Ref sig .tc := ⟨.hbm, 195, rfl⟩
abbrev main_c_58 : Ref sig .tc := ⟨.hbm, 196, rfl⟩
abbrev main_v117 : Ref sig .tc := ⟨.hbm, 197, rfl⟩
abbrev main_v118 : Ref sig .tc := ⟨.hbm, 198, rfl⟩
abbrev main_cst_59 : Ref sig .tc := ⟨.hbm, 199, rfl⟩
abbrev main_cst_60 : Ref sig .tc := ⟨.hbm, 200, rfl⟩
abbrev main_call11_v0 : Ref sig .tc := ⟨.hbm, 201, rfl⟩
abbrev main_call11_v1 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩

abbrev nD : Nat := 1
abbrev τ : Topo := Topo.v7x

variable {F : FTy → Type} [FloatOps F]
-- ==== Proof.P.Conds.lean ====
/- The compiled kernel's branch conditions in terms of the grid point, and the names of the buffers its body
   works on at a point. Point `t` of the grid is `t = n·128 + k·16 + m`: the half `n` of the output columns, the
   step `k` along the contraction, the row block `m`. -/
module

public import proofs.«01_k».proof.Proof.Gen.Kernel.Frame
public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-! ## The branch conditions -/

/-- The first branch's condition, as the body computes it from the grid coordinates. -/
abbrev cond0 (i : grid0.Coords) : Prop := (Scalar.cmpi .ne (Scalar.extui (Scalar.andi (Scalar.cmpi .eq (BitVec.ofNat 32 (i 2).val) 0#32) (Scalar.cmpi .eq (BitVec.ofNat 32 (i 1).val) 0#32))) 0#32) = 1#1
/-- The second branch's condition. -/
abbrev cond1 (i : grid0.Coords) : Prop := k0_cond2 i = 1#1
/-- The third branch's condition. -/
abbrev cond2 (i : grid0.Coords) : Prop := k0_cond3 i = 1#1
/-- The fourth branch's condition. -/
abbrev cond3 (i : grid0.Coords) : Prop := k0_cond4 i = 1#1
/-- The fifth branch's condition. -/
abbrev cond4 (i : grid0.Coords) : Prop := k0_cond5 i = 1#1

/-- The output half of point `t`. -/
theorem coord0 (t : Fin grid0.N) : (grid0.coords t 0).val = t.val / 128 % 2 := Pipeline.Grid.coords_val t 0 (by decide) rfl
/-- The contraction step of point `t`. -/
theorem coord1 (t : Fin grid0.N) : (grid0.coords t 1).val = t.val / 16 % 8 := Pipeline.Grid.coords_val t 1 (by decide) rfl
/-- The row block of point `t`. -/
theorem coord2 (t : Fin grid0.N) : (grid0.coords t 2).val = t.val / 1 % 16 := Pipeline.Grid.coords_val t 2 (by decide) rfl

/-- The group scales are computed at the points with `k = 0` and `m = 0`. -/
theorem hcond0 (t : Fin grid0.N) : cond0 (grid0.coords t) ↔ t.val % 128 = 0 := by
  have ht : t.val < 256 := Nat.lt_of_lt_of_eq t.isLt N_0
  simp only [cond0, coord1, coord2]
  word_cmp
/-- The weights are decoded at the points with `m = 0`. -/
theorem hcond1 (t : Fin grid0.N) : cond1 (grid0.coords t) ↔ t.val % 16 = 0 := by
  have ht : t.val < 256 := Nat.lt_of_lt_of_eq t.isLt N_0
  simp only [cond1, k0_cond2, coord2]
  word_cmp
/-- The accumulator starts at the points with `k = 0`. -/
theorem hcond2 (t : Fin grid0.N) : cond2 (grid0.coords t) ↔ t.val / 16 % 8 = 0 := by
  have ht : t.val < 256 := Nat.lt_of_lt_of_eq t.isLt N_0
  simp only [cond2, k0_cond3, coord1]
  word_cmp
/-- The accumulator is added to at the points with `0 < k`. -/
theorem hcond3 : ∀ t : Fin grid0.N, cond3 (grid0.coords t) ↔ ¬ t.val / 16 % 8 = 0 := by
  decide +kernel
/-- The output block is stored at the points with `k = 7`. -/
theorem hcond4 (t : Fin grid0.N) : cond4 (grid0.coords t) ↔ t.val / 16 % 8 = 7 := by
  have ht : t.val < 256 := Nat.lt_of_lt_of_eq t.isLt N_0
  simp only [cond4, k0_cond5, coord1]
  word_cmp

/-- The six ways the five conditions fall together: the first point of an output half; the rest of its `k = 0`
    row; and, for `0 < k`, with or without a decode, before and at the last `k`. -/
def Cases (i : grid0.Coords) : Prop :=
  (cond0 i ∧ cond1 i ∧ cond2 i ∧ ¬ cond3 i ∧ ¬ cond4 i)
  ∨ (¬ cond0 i ∧ ¬ cond1 i ∧ cond2 i ∧ ¬ cond3 i ∧ ¬ cond4 i)
  ∨ (¬ cond0 i ∧ cond1 i ∧ ¬ cond2 i ∧ cond3 i ∧ ¬ cond4 i)
  ∨ (¬ cond0 i ∧ ¬ cond1 i ∧ ¬ cond2 i ∧ cond3 i ∧ ¬ cond4 i)
  ∨ (¬ cond0 i ∧ cond1 i ∧ ¬ cond2 i ∧ cond3 i ∧ cond4 i)
  ∨ (¬ cond0 i ∧ ¬ cond1 i ∧ ¬ cond2 i ∧ cond3 i ∧ cond4 i)

/-- Every point is in one of the six cases. -/
theorem cases_at (t : Fin grid0.N) : Cases (grid0.coords t) := by
  have ht : t.val < 256 := Nat.lt_of_lt_of_eq t.isLt N_0
  simp only [Cases, hcond0, hcond1, hcond2, hcond3, hcond4]
  omega

/-! ## The buffers at a point -/

/-- The staging buffer that holds the offset at point `t`. -/
abbrev ms0_0 (t : Fin cfg0.N) : Memref sig .tc .smem S1 .f32 := win0_0.stage (cfg0.slots t 0)
/-- That buffer is a whole array. -/
abbrev hs0_0 (t : Fin cfg0.N) : (ms0_0 t).IsWhole := hstage0_0 ((cfg0.slots t 0).cast nbuf0_0)
/-- The staging buffer that holds the output-gradient block at point `t`. -/
abbrev ms0_1 (t : Fin cfg0.N) : Memref sig .tc .vmem S480x2048 .bf16 := win0_1.stage (cfg0.slots t 1)
/-- That buffer is a whole array. -/
abbrev hs0_1 (t : Fin cfg0.N) : (ms0_1 t).IsWhole := hstage0_1 ((cfg0.slots t 1).cast nbuf0_1)
/-- The staging buffer that holds the packed-weight block at point `t`. -/
abbrev ms0_2 (t : Fin cfg0.N) : Memref sig .tc .vmem S1024x1024 .i8 := win0_2.stage (cfg0.slots t 2)
/-- That buffer is a whole array. -/
abbrev hs0_2 (t : Fin cfg0.N) : (ms0_2 t).IsWhole := hstage0_2 ((cfg0.slots t 2).cast nbuf0_2)
/-- The staging buffer that holds the quantized group scales at point `t`. -/
abbrev ms0_3 (t : Fin cfg0.N) : Memref sig .tc .vmem S1024x256 .i8 := win0_3.stage (cfg0.slots t 3)
/-- That buffer is a whole array. -/
abbrev hs0_3 (t : Fin cfg0.N) : (ms0_3 t).IsWhole := hstage0_3 ((cfg0.slots t 3).cast nbuf0_3)
/-- The staging buffer that holds the second-level scales at point `t`. -/
abbrev ms0_4 (t : Fin cfg0.N) : Memref sig .tc .vmem S1x1024 .f32 := win0_4.stage (cfg0.slots t 4)
/-- That buffer is a whole array. -/
abbrev hs0_4 (t : Fin cfg0.N) : (ms0_4 t).IsWhole := hstage0_4 ((cfg0.slots t 4).cast nbuf0_4)
/-- The staging buffer that holds the output block at point `t`. -/
abbrev ms0_5 (t : Fin cfg0.N) : Memref sig .tc .vmem S480x1024 .bf16 := win0_5.stage (cfg0.slots t 5)
/-- That buffer is a whole array. -/
abbrev hs0_5 (t : Fin cfg0.N) : (ms0_5 t).IsWhole := hstage0_5 ((cfg0.slots t 5).cast nbuf0_5)
/-- The accumulator: one `480×1024` plane per row block. -/
abbrev scM0_0 : Memref sig .tc .vmem S16x480x1024 .f32 := Memref.whole cc0_scratch0
/-- The decoded weights of the current contraction step. -/
abbrev scM0_1 : Memref sig .tc .vmem S2048x1024 .bf16 := Memref.whole cc0_scratch1
/-- The group scales of the current output half, each twice in a word. -/
abbrev scM0_2 : Memref sig .tc .vmem S256x1024 .i32 := Memref.whole cc0_scratch2

/-- The frame kit's invariant spelt out: the three scratch buffers at some contents, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel.Hand

end
-- ==== Proof.P.Body.lean ====
/- The compiled kernel's body runs without fault from any contents of its buffers, and hands them all back: the
   inputs' blocks as they were, the output block and the three scratch buffers at some contents. -/
module

public import proofs.«01_k».proof.Proof.P.Conds

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body's triple for any continuation, in whichever of the six cases the point is. -/
theorem kernelRun (c : Dev nD) (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x1024 .i32) (harg11 : arg11.IsWhole)
    (x0 : Vec F S1 .f32) (x1 : Vec F S480x2048 .bf16) (x2 : Vec F S1024x1024 .i8) (x3 : Vec F S1024x256 .i8) (x4 : Vec F S1x1024 .f32)
    (hc : Cases i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_nf4_input_grad i arg3 harg3 arg4 harg4 arg5 harg5 arg6 harg6 arg7 harg7 arg8 harg8 arg9 harg9 arg10 harg10 arg11 harg11) K := by
  simp only [cc0_nf4_input_grad_eq_skeleton]; unfold cc0_nf4_input_grad_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  rcases hc with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    sl_exec (disch := first | sl_exact hc0 | sl_exact hc1 | sl_exact hc2 | sl_exact hc3 | sl_exact hc4)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _, _; isplitr; swap; · iexact H5
                    ipureintro; rfl
    isplitl [HS0]; · iexists _, _; isplitr; swap; · iexact HS0
                     ipureintro; rfl
    isplitl [HS1]; · iexists _, _; isplitr; swap; · iexact HS1
                     ipureintro; rfl
    iexists _, _; isplitr; swap; · iexact HS2
    ipureintro; rfl

end Cert.Kernel.Hand

end
-- ==== Proof.P.Frame.lean ====
/- The compiled kernel's frame: from any memory with zero counters, every weakly fair execution of @main terminates
   with every argument array unchanged and every semaphore counter at zero. Nothing is said here of the output:
   the pipeline's output window is forgotten. -/
module

public import proofs.«01_k».proof.Proof.P.Body
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data -/

/-- The output window is forgotten, the inputs are not. -/
def forgets0 : Fin cfg0.W → Bool := fun w => w.val == 5

/-- The pipeline's proof data on core `c`: the arrays as the region finds them; each input's buffer left at its
    block, the output's unnamed; the scratch buffers at some contents throughout; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

/-- The region finds each of its arrays as the host lines before it left it. -/
theorem A_eq (c : Dev nD) (w : Fin cfg0.W) : (dats m 0 c).A w = V m c (Pipeline.arrRef spec0 w) := by
  dsimp only [dats]

/-- The body leaves the offset as it found it. -/
theorem after0_0 (c : Dev nD) (t : Fin cfg0.N) : (dats m 0 c).after 0 t = iblk m c 0 t := by dsimp only [dats]
/-- The body leaves the output-gradient block as it found it. -/
theorem after0_1 (c : Dev nD) (t : Fin cfg0.N) : (dats m 0 c).after 1 t = iblk m c 1 t := by dsimp only [dats]
/-- The body leaves the packed-weight block as it found it. -/
theorem after0_2 (c : Dev nD) (t : Fin cfg0.N) : (dats m 0 c).after 2 t = iblk m c 2 t := by dsimp only [dats]
/-- The body leaves the quantized group scales as it found it. -/
theorem after0_3 (c : Dev nD) (t : Fin cfg0.N) : (dats m 0 c).after 3 t = iblk m c 3 t := by dsimp only [dats]
/-- The body leaves the second-level scales as it found it. -/
theorem after0_4 (c : Dev nD) (t : Fin cfg0.N) : (dats m 0 c).after 4 t = iblk m c 4 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- At every point the current staging buffer holds the output-gradient block of that point. -/
theorem before0_1 (c : Dev nD) (t : Fin cfg0.N) (d) : (dats m 0 c).before 1 t d = iblk m c 1 t :=
  before0_1_of m (dats m 0 c) (A_eq m c 1) (after0_1 m c) t d
/-- At every point the current staging buffer holds the packed-weight block of that point. -/
theorem before0_2 (c : Dev nD) (t : Fin cfg0.N) (d) : (dats m 0 c).before 2 t d = iblk m c 2 t :=
  before0_2_of m (dats m 0 c) (A_eq m c 2) (after0_2 m c) t d
/-- At every point the current staging buffer holds the quantized group scales of that point. -/
theorem before0_3 (c : Dev nD) (t : Fin cfg0.N) (d) : (dats m 0 c).before 3 t d = iblk m c 3 t :=
  before0_3_of m (dats m 0 c) (A_eq m c 3) (after0_3 m c) t d
/-- At every point the current staging buffer holds the second-level scales of that point. -/
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

/-- The body at any point: the inputs' buffers hold their blocks, the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, H5⟩
  iapply (kernelRun c (grid0.coords t) _ _ _ _ _ _ _ _ _ _ _ _ _ _ _ _ _ _ (iblk m c 0 t) (iblk m c 1 t) (iblk m c 2 t) (iblk m c 3 t) (iblk m c 4 t) (cases_at t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, the output window forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The one buffer the host line after the region writes. -/
def tail0 : Finset (Ref sig .tc) := {main_v3}

/-- The host line after the region writes that buffer alone. -/
theorem tail0_writes : ∀ ops ∈ ([hostOps1] : List (List (HloOp τ sig (Elt F)))), ∀ op ∈ ops,
    ∀ b : Ref sig .tc, Proc.devRef .tc b ∈ op.writes → b ∈ tail0 := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  by_contra hne
  exact StableHlo.devRef_ne_of_ne (fun h => hne (Finset.mem_singleton.2 h)) hb

-- the launch theorem's implicit arguments are found by unifying its conclusion with this one, which takes unfolding plain
-- definitions in a metavariable's type
set_option backward.isDefEq.respectTransparency.types false in
set_option maxHeartbeats 800000 in
/-- The launch: every weakly fair execution terminates; the inputs' arrays end as they were, every other unscoped
    buffer but the result as the region found it, and every semaphore counter at zero. -/
theorem run_main : θ_run defs (onTc (τ := τ) (main (F := F))) (s₀ m ρ)
    (fun r => Pipeline.RDat.FramePostR (cfgs 0) (fun c => (dats m 0 c).toRForget forgets0) tail0 (V m) r ∧ r.2.sem = fun _ => 0) :=
  Pipeline.θ_run_frame_around_T_track_forget (Q' := _) cfgs (dats m) (0 : Fin 1) launch0 defs₀ Variants.none forgets0 tail0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail0_writes) (hmain := hmain m Variants.none) (hA := A_eq m) (hin := fun _ => .rfl) (hout := fun _ => .rfl)

/-- THE FRAME: every argument array ends unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_⟩, h.2⟩) (run_main m ρ)
  · exact ((h.1 c).2 main_arg0 (by decide)).trans (V_main_arg0 m c)
  · exact (h.1.arr_in c 2 rfl).trans ((A_eq m c 2).trans (V_main_arg1 m c))
  · exact (h.1.arr_in c 3 rfl).trans ((A_eq m c 3).trans (V_main_arg2 m c))
  · exact ((h.1 c).2 main_arg3 (by decide)).trans (V_main_arg3 m c)
  · exact (h.1.arr_in c 0 rfl).trans ((A_eq m c 0).trans (V_main_arg4 m c))

end Cert.Kernel.Hand

end
-- ==== Proof.PI.Conds.lean ====
/- The idealized kernel's branch conditions in terms of the grid point, and the names of the buffers its body
   works on at a point. Point `t` of the grid is `t = n·128 + k·16 + m`: the half `n` of the output columns, the
   step `k` along the contraction, the row block `m`. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch's condition, as the body computes it from the grid coordinates. -/
abbrev cond0 (i : grid0.Coords) : Prop := (Scalar.cmpi .ne (Scalar.extui (Scalar.andi (Scalar.cmpi .eq (BitVec.ofNat 32 (i 2).val) 0#32) (Scalar.cmpi .eq (BitVec.ofNat 32 (i 1).val) 0#32))) 0#32) = 1#1
/-- The second branch's condition. -/
abbrev cond1 (i : grid0.Coords) : Prop := k0_cond2 i = 1#1
/-- The third branch's condition. -/
abbrev cond2 (i : grid0.Coords) : Prop := k0_cond3 i = 1#1
/-- The fourth branch's condition. -/
abbrev cond3 (i : grid0.Coords) : Prop := k0_cond4 i = 1#1
/-- The fifth branch's condition. -/
abbrev cond4 (i : grid0.Coords) : Prop := k0_cond5 i = 1#1

/-- The output half of point `t`. -/
theorem coord0 (t : Fin grid0.N) : (grid0.coords t 0).val = t.val / 128 % 2 := Pipeline.Grid.coords_val t 0 (by decide) rfl
/-- The contraction step of point `t`. -/
theorem coord1 (t : Fin grid0.N) : (grid0.coords t 1).val = t.val / 16 % 8 := Pipeline.Grid.coords_val t 1 (by decide) rfl
/-- The row block of point `t`. -/
theorem coord2 (t : Fin grid0.N) : (grid0.coords t 2).val = t.val / 1 % 16 := Pipeline.Grid.coords_val t 2 (by decide) rfl

/-- The group scales are computed at the points with `k = 0` and `m = 0`. -/
theorem hcond0 (t : Fin grid0.N) : cond0 (grid0.coords t) ↔ t.val % 128 = 0 := by
  have ht : t.val < 256 := Nat.lt_of_lt_of_eq t.isLt N_0
  simp only [cond0, coord1, coord2]
  word_cmp
/-- The weights are decoded at the points with `m = 0`. -/
theorem hcond1 (t : Fin grid0.N) : cond1 (grid0.coords t) ↔ t.val % 16 = 0 := by
  have ht : t.val < 256 := Nat.lt_of_lt_of_eq t.isLt N_0
  simp only [cond1, k0_cond2, coord2]
  word_cmp
/-- The accumulator starts at the points with `k = 0`. -/
theorem hcond2 (t : Fin grid0.N) : cond2 (grid0.coords t) ↔ t.val / 16 % 8 = 0 := by
  have ht : t.val < 256 := Nat.lt_of_lt_of_eq t.isLt N_0
  simp only [cond2, k0_cond3, coord1]
  word_cmp
/-- The accumulator is added to at the points with `0 < k`. -/
theorem hcond3 : ∀ t : Fin grid0.N, cond3 (grid0.coords t) ↔ ¬ t.val / 16 % 8 = 0 := by
  decide +kernel
/-- The output block is stored at the points with `k = 7`. -/
theorem hcond4 (t : Fin grid0.N) : cond4 (grid0.coords t) ↔ t.val / 16 % 8 = 7 := by
  have ht : t.val < 256 := Nat.lt_of_lt_of_eq t.isLt N_0
  simp only [cond4, k0_cond5, coord1]
  word_cmp

/-- The six ways the five conditions fall together: the first point of an output half; the rest of its `k = 0`
    row; and, for `0 < k`, with or without a decode, before and at the last `k`. -/
def Cases (i : grid0.Coords) : Prop :=
  (cond0 i ∧ cond1 i ∧ cond2 i ∧ ¬ cond3 i ∧ ¬ cond4 i)
  ∨ (¬ cond0 i ∧ ¬ cond1 i ∧ cond2 i ∧ ¬ cond3 i ∧ ¬ cond4 i)
  ∨ (¬ cond0 i ∧ cond1 i ∧ ¬ cond2 i ∧ cond3 i ∧ ¬ cond4 i)
  ∨ (¬ cond0 i ∧ ¬ cond1 i ∧ ¬ cond2 i ∧ cond3 i ∧ ¬ cond4 i)
  ∨ (¬ cond0 i ∧ cond1 i ∧ ¬ cond2 i ∧ cond3 i ∧ cond4 i)
  ∨ (¬ cond0 i ∧ ¬ cond1 i ∧ ¬ cond2 i ∧ cond3 i ∧ cond4 i)

/-- Every point is in one of the six cases. -/
theorem cases_at (t : Fin grid0.N) : Cases (grid0.coords t) := by
  have ht : t.val < 256 := Nat.lt_of_lt_of_eq t.isLt N_0
  simp only [Cases, hcond0, hcond1, hcond2, hcond3, hcond4]
  omega

/-! ## The buffers at a point -/

/-- The staging buffer that holds the offset at point `t`. -/
abbrev ms0_0 (t : Fin cfg0.N) : Memref sig .tc .smem S1 .f32 := win0_0.stage (cfg0.slots t 0)
/-- That buffer is a whole array. -/
abbrev hs0_0 (t : Fin cfg0.N) : (ms0_0 t).IsWhole := hstage0_0 ((cfg0.slots t 0).cast nbuf0_0)
/-- The staging buffer that holds the output-gradient block at point `t`. -/
abbrev ms0_1 (t : Fin cfg0.N) : Memref sig .tc .vmem S480x2048 .bf16 := win0_1.stage (cfg0.slots t 1)
/-- That buffer is a whole array. -/
abbrev hs0_1 (t : Fin cfg0.N) : (ms0_1 t).IsWhole := hstage0_1 ((cfg0.slots t 1).cast nbuf0_1)
/-- The staging buffer that holds the packed-weight block at point `t`. -/
abbrev ms0_2 (t : Fin cfg0.N) : Memref sig .tc .vmem S1024x1024 .i8 := win0_2.stage (cfg0.slots t 2)
/-- That buffer is a whole array. -/
abbrev hs0_2 (t : Fin cfg0.N) : (ms0_2 t).IsWhole := hstage0_2 ((cfg0.slots t 2).cast nbuf0_2)
/-- The staging buffer that holds the quantized group scales at point `t`. -/
abbrev ms0_3 (t : Fin cfg0.N) : Memref sig .tc .vmem S1024x256 .i8 := win0_3.stage (cfg0.slots t 3)
/-- That buffer is a whole array. -/
abbrev hs0_3 (t : Fin cfg0.N) : (ms0_3 t).IsWhole := hstage0_3 ((cfg0.slots t 3).cast nbuf0_3)
/-- The staging buffer that holds the second-level scales at point `t`. -/
abbrev ms0_4 (t : Fin cfg0.N) : Memref sig .tc .vmem S1x1024 .f32 := win0_4.stage (cfg0.slots t 4)
/-- That buffer is a whole array. -/
abbrev hs0_4 (t : Fin cfg0.N) : (ms0_4 t).IsWhole := hstage0_4 ((cfg0.slots t 4).cast nbuf0_4)
/-- The staging buffer that holds the output block at point `t`. -/
abbrev ms0_5 (t : Fin cfg0.N) : Memref sig .tc .vmem S480x1024 .bf16 := win0_5.stage (cfg0.slots t 5)
/-- That buffer is a whole array. -/
abbrev hs0_5 (t : Fin cfg0.N) : (ms0_5 t).IsWhole := hstage0_5 ((cfg0.slots t 5).cast nbuf0_5)
/-- The accumulator: one `480×1024` plane per row block. -/
abbrev scM0_0 : Memref sig .tc .vmem S16x480x1024 .f32 := Memref.whole cc0_scratch0
/-- The decoded weights of the current contraction step. -/
abbrev scM0_1 : Memref sig .tc .vmem S2048x1024 .bf16 := Memref.whole cc0_scratch1
/-- The group scales of the current output half, each held twice, as a pair. -/
abbrev scM0_2 : Memref sig .tc .vmem S256x2x1024 .bf16 := Memref.whole cc0_scratch2

/-- The frame kit's invariant spelt out: the three scratch buffers at some contents, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.PI.Piece.lean ====
/- One piece of the decoded weights as the body computes it, `256×512` of them from a `512×128` block of packed
   bytes and four rows of group scales, and what it is at an index. -/
module

public import proofs.«01_k».proof.Proof.PI.Conds
public import Idealize.ShloMosaic.Lib.PointwiseCore
public import Idealize.ShloMosaic.Lib.BitcastPair

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The decoded values of a block of packed bytes, before the scaling: each byte's two codes looked up in the table,
    the byte's low half on an even row, its high half on the odd row below. -/
def vals (w : Vec F S512x128 .i8) : FVec F S256x512 .bf16 :=
  k0_pay15 (k0_pay8 w) (k0_pay9 w) (k0_pay10 w) (k0_pay11 w) (k0_pay12 w) (k0_pay13 w) k0_pay14 (Scalar.ofBits .bf16 0x3DA3#16)

/-- One piece of the decoded weights: the values scaled, 64 rows by each of the four given rows of group scales. -/
def piece (w : Vec F S512x128 .i8) (r0 r1 r2 r3 : Vec F S1x2x512 .bf16) : FVec F S256x512 .bf16 :=
  k0_pay22 (vals w) (k0_pay16 r0) (k0_pay17 r0) (k0_pay16 r1) (k0_pay17 r1) (k0_pay16 r2) (k0_pay17 r2) r3

/-- The table entry that a code selects, bit by bit. -/
def nf4v (c : BitVec 16) : F .bf16 :=
  let b1 := IntOp.cmpi .ne (IntOp.andi c 1#16) 0#16
  let b2 := IntOp.cmpi .ne (IntOp.andi c 2#16) 0#16
  let b4 := IntOp.cmpi .ne (IntOp.andi c 4#16) 0#16
  let b8 := IntOp.cmpi .ne (IntOp.andi c 8#16) 0#16
  let v (x : BitVec 16) : F .bf16 := FloatOps.ofBits .bf16 x
  Scalar.select b8
    (Scalar.select b4
      (Scalar.select b2 (Scalar.select b1 (v 0x3F80#16) (v 0x3F39#16)) (Scalar.select b1 (v 0x3F10#16) (v 0x3EE2#16)))
      (Scalar.select b2 (Scalar.select b1 (v 0x3EAD#16) (v 0x3E7C#16)) (Scalar.select b1 (v 0x3E25#16) (v 0x3DA3#16))))
    (Scalar.select b4
      (Scalar.select b2 (Scalar.select b1 (v 0x0000#16) (v 0xBDBA#16)) (Scalar.select b1 (v 0xBE3D#16) (v 0xBE92#16)))
      (Scalar.select b2 (Scalar.select b1 (v 0xBECA#16) (v 0xBF06#16)) (Scalar.select b1 (v 0xBF32#16) (v 0xBF80#16))))

/-- A packed byte's code for the row of parity `p`, as the body unpacks it: the byte and the byte moved up by
    twelve in one word, both masked to four bits, and one half of that word. -/
def code (b : BitVec 8) (p : ℕ) : BitVec 16 :=
  (IntOp.andi (IntOp.ori (b.setWidth 32) (IntOp.shli .vector (b.setWidth 32) 12#32)) 983055#32).extractLsb' (16 * p) 16

/-- The unpacked codes of a block of packed bytes at an index. -/
theorem codes_apply (w : Vec F S512x128 .i8) (y : Fin 256) (x : Fin 512) :
    k0_pay7 w (ix2 y x) = code (w (ix2 x ⟨y.val / 2, by omega⟩)) (y.val % 2) := by
  unfold k0_pay7
  dsimp only
  rw [bitcast_32_16]
  have e : ∀ hp, bitcasts_S128x512_w32_S256x512_w16.srcIdx (ix2 y x) ((⟨2, ![256, 512]⟩ : Shape).row (ix2 y x) / 2) hp
      = (ix2 (⟨y.val / 2, by omega⟩ : Fin 128) x : S128x512.Idx) := fun hp => by
    funext a
    match a with
    | ⟨0, _⟩ => rfl
    | ⟨1, _⟩ => rfl
  rw [e]
  unfold code
  pointwise

/-- A piece's unscaled weights at an index: the table's entry for the code there. -/
theorem vals_apply (w : Vec F S512x128 .i8) (y : Fin 256) (x : Fin 512) :
    vals w (ix2 y x) = nf4v (code (w (ix2 x ⟨y.val / 2, by omega⟩)) (y.val % 2)) := by
  rw [← codes_apply]
  pointwise [vals, k0_pay8, k0_pay9, k0_pay10, k0_pay11, k0_pay12, k0_pay13, k0_pay14, k0_pay15]
  rfl

/-- A row of group scales repeated thirty-two times, at an index. -/
theorem rep_lo_apply (r : Vec F S1x2x512 .bf16) (y : Fin 32) (x : Fin 512) : k0_pay16 r (ix2 y x) = r (ix3 0 0 x) := by
  pointwise [k0_pay16]
  simp only [dite_eq_ite, ite_self]
/-- The word's high half, repeated thirty-two times, at an index. -/
theorem rep_hi_apply (r : Vec F S1x2x512 .bf16) (y : Fin 32) (x : Fin 512) : k0_pay17 r (ix2 y x) = r (ix3 0 1 x) := by
  pointwise [k0_pay17]
  simp only [dite_eq_ite, ite_self]

/-- The row of group scales that row `y` of a piece is scaled by. -/
def rowAt (r0 r1 r2 r3 : Vec F S1x2x512 .bf16) (g : ℕ) : Vec F S1x2x512 .bf16 :=
  if g = 0 then r0 else if g = 1 then r1 else if g = 2 then r2 else r3

/-- A piece at an index: the table's entry for the code, scaled. -/
theorem piece_apply (w : Vec F S512x128 .i8) (r0 r1 r2 r3 : Vec F S1x2x512 .bf16) (y : Fin 256) (x : Fin 512) :
    piece w r0 r1 r2 r3 (ix2 y x)
      = FloatOps.mulf (nf4v (code (w (ix2 x ⟨y.val / 2, by omega⟩)) (y.val % 2)))
          (rowAt r0 r1 r2 r3 (y.val / 64) (ix3 0 ⟨y.val % 2, by omega⟩ x)) := by
  rw [← vals_apply]
  have e : ∀ r : Vec F S1x2x512 .bf16, piece w r0 r1 r2 r = k0_pay22 (vals w) (k0_pay16 r0) (k0_pay17 r0) (k0_pay16 r1) (k0_pay17 r1) (k0_pay16 r2) (k0_pay17 r2) r := fun _ => rfl
  have e2 : k0_pay22 (vals w) (k0_pay16 r0) (k0_pay17 r0) (k0_pay16 r1) (k0_pay17 r1) (k0_pay16 r2) (k0_pay17 r2) r3
      = shapeCast S256x512 (mulf (vals w) (interleaveRows S256x512
          (concatenate S128x512 0 [⟨S32x512, k0_pay16 r0⟩, ⟨S32x512, k0_pay16 r1⟩, ⟨S32x512, k0_pay16 r2⟩, ⟨S32x512, k0_pay16 r3⟩] concatenates_S32x512_S32x512_S32x512_S32x512_S128x512_d0)
          (concatenate S128x512 0 [⟨S32x512, k0_pay17 r0⟩, ⟨S32x512, k0_pay17 r1⟩, ⟨S32x512, k0_pay17 r2⟩, ⟨S32x512, k0_pay17 r3⟩] concatenates_S32x512_S32x512_S32x512_S32x512_S128x512_d0) bitcasts_S256x512_w16_S128x512_w32)) shapeCasts_S256x512_S256x512 := rfl
  rw [e, e2]
  pointwise
  simp only [rep_lo_apply, rep_hi_apply]
  congr 1
  have hp : (⟨y.val % 2, by omega⟩ : Fin 2) = if y.val % 2 = 0 then 0 else 1 := by
    split <;> (apply Fin.ext; simp only [Fin.val_zero, Fin.val_one]; omega)
  rw [hp]
  unfold rowAt
  split_ifs <;> first | rfl | omega

end Cert.KernelIdeal.Hand

end
-- ==== Proof.PI.Parts.lean ====
/- The idealized kernel's body cut in three: the group scales, the decode of the weights, and the products with their
   accumulation and the output. -/
module

public import proofs.«01_k».proof.Proof.PI.Piece
public import Idealize.ShloMosaic.Lib.VecWindow

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first branch: the group scales of this half of the output columns, computed and stored; then whatever comes next. -/
def scalesPart (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x2x1024 .bf16) (harg11 : arg11.IsWhole) (next : Prog (TpuEff nD τ sig (Elt F) Λ₀ .tc) PUnit) :
    Prog (TpuEff nD τ sig (Elt F) Λ₀ .tc) PUnit := do
  let arg1 : BitVec 32 := BitVec.ofNat 32 (i 1).val
  let arg2 : BitVec 32 := BitVec.ofNat 32 (i 2).val
  let v0 : BitVec 1 := Scalar.cmpi .eq arg2 0#32
  let v1 : BitVec 1 := Scalar.cmpi .eq arg1 0#32
  let v2 : BitVec 1 := Scalar.andi v0 v1
  let v3 : BitVec 32 := Scalar.extui v2
  let v4 : BitVec 1 := Scalar.cmpi .ne v3 0#32
  if k0_h1 : v4 = 1#1 then do
    let v21 : Vec F S1024x256 .i8 ← Prog.lift (.load arg6 (Rect.unit (s := S1024x256) ![0, 0] S1024x256.size inb_S1024x256_S1024x256_0_0).toLoadRect (View.loadsAt_vmem h_S1024x256))
    let v24 : Vec F S1x1024 .f32 ← Prog.lift (.load arg7 (Rect.unit (s := S1x1024) ![0, 0] S1x1024.size inb_S1x1024_S1x1024_0_0).toLoadRect (View.loadsAt_vmem h_S1x1024))
    let v28 : Elt F .f32 ← smemLoad arg3 (Rect.unit (s := S1) ![0] S1.size inb_S1_S1_0) numel1_S1 rfl
    let v39_raw : Vec F S256x2x1024 .bf16 ← Prog.lift (.load arg11 (Rect.unit (s := S256x2x1024) ![0, 0, 0] S256x2x1024.size inb_S256x2x1024_S256x2x1024_0_0_0).toLoadRect (View.loadsAt_vmem h_S256x2x1024))
    Prog.lift (.store arg11 (Rect.unit (s := S256x2x1024) ![0, 0, 0] S256x2x1024.size inb_S256x2x1024_S256x2x1024_0_0_0) (k0_pay1 v21 v24 v28) Finset.univ (View.stores_vmem h_S256x2x1024 ((harg11.pairWhole rank2_S256x2x1024).storeExact_slice rfl _ (Rect.wholeRows_unit rank2_S256x2x1024 rfl rfl) pairs_S256x2x1024_bf16) (fun _ => rfl)) (.inl rfl))
    pure ⟨⟩
  else do
    pure ⟨⟩
  next

/-- The second branch: the weights of this contraction step, decoded and stored; then whatever comes next. -/
def decodePart (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x2x1024 .bf16) (harg11 : arg11.IsWhole) (next : Prog (TpuEff nD τ sig (Elt F) Λ₀ .tc) PUnit) :
    Prog (TpuEff nD τ sig (Elt F) Λ₀ .tc) PUnit := do
  let arg1 : BitVec 32 := BitVec.ofNat 32 (i 1).val
  if k0_h2 : k0_cond2 i = 1#1 then do
    let ⟨v1223, v1278, v1282_lo, v1282_hi, v1286_lo, v1286_hi, v1290_lo, v1290_hi⟩ : Σ' (v1223 : BitVec 32) (v1278 : FVec F S256x512 .bf16) (v1282_lo : FVec F S32x512 .bf16) (v1282_hi : FVec F S32x512 .bf16) (v1286_lo : FVec F S32x512 .bf16) (v1286_hi : FVec F S32x512 .bf16) (v1290_lo : FVec F S32x512 .bf16), FVec F S32x512 .bf16 ← k0_part36 i arg3 harg3 arg4 harg4 arg5 harg5 arg6 harg6 arg7 harg7 arg8 harg8 arg9 harg9 arg10 harg10 arg11 harg11 arg1 k0_h2
    let v1293_raw : Vec F S1x2x512 .bf16 ← Prog.lift (.load arg11 (Rect.unit (s := S256x2x1024) (k0_off2 i 28#32 3#32) S1x2x512.size (k0_off2_inb i k0_h2 7 3)).toLoadRect (View.loadsAt_vmem h_S1x2x512))
    let v1298 : Vec F S256x512 .bf16 ← Prog.lift (.load arg10 (Rect.unit (s := S2048x1024) ![1792, 512] S256x512.size inb_S2048x1024_S256x512_1792_512).toLoadRect (View.loadsAt_vmem h_S256x512))
    Prog.lift (.store arg10 (Rect.unit (s := S2048x1024) ![1792, 512] S256x512.size inb_S2048x1024_S256x512_1792_512) (k0_pay2 v1278 v1282_lo v1282_hi v1286_lo v1286_hi v1290_lo v1290_hi v1293_raw) Finset.univ (View.stores_vmem h_S256x512 (harg10.storeExact_slice rfl _ packedbf16_S2048x1024_S256x512_1792_512) (fun _ => rfl)) (.inl rfl))
    pure ⟨⟩
  else do
    pure ⟨⟩
  next

/-- The rest: the product, stored or added into its plane of the accumulator, and the output block from the last sum. -/
def productPart (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x2x1024 .bf16) (harg11 : arg11.IsWhole) :
    Prog (TpuEff nD τ sig (Elt F) Λ₀ .tc) PUnit := do
  let v8 : Vec F S480x2048 .bf16 ← Prog.lift (.load arg4 (Rect.unit (s := S480x2048) ![0, 0] S480x2048.size inb_S480x2048_S480x2048_0_0).toLoadRect (View.loadsAt_vmem h_S480x2048))
  let v10 : Vec F S2048x1024 .bf16 ← Prog.lift (.load arg10 (Rect.unit (s := S2048x1024) ![0, 0] S2048x1024.size inb_S2048x1024_S2048x1024_0_0).toLoadRect (View.loadsAt_vmem h_S2048x1024))
  if k0_h3 : k0_cond3 i = 1#1 then do
    let v22 : Vec F S1x480x1024 .f32 ← Prog.lift (.load arg9 (Rect.unit (s := S16x480x1024) (k0_off3 i) S1x480x1024.size (k0_off3_inb i k0_h3)).toLoadRect (View.loadsAt_vmem h_S1x480x1024))
    Prog.lift (.store arg9 (Rect.unit (s := S16x480x1024) (k0_off3 i) S1x480x1024.size (k0_off3_inb i k0_h3)) (k0_pay4 v8 v10) Finset.univ (View.stores_vmem_bits_univ h_S1x480x1024 rfl) (.inl rfl))
    pure ⟨⟩
  else do
    pure ⟨⟩
  if k0_h4 : k0_cond4 i = 1#1 then do
    let v22 : Vec F S1x480x1024 .f32 ← Prog.lift (.load arg9 (Rect.unit (s := S16x480x1024) (k0_off4 i) S1x480x1024.size (k0_off4_inb i k0_h4)).toLoadRect (View.loadsAt_vmem h_S1x480x1024))
    let v26 : Vec F S1x480x1024 .f32 ← Prog.lift (.load arg9 (Rect.unit (s := S16x480x1024) (k0_off4 i) S1x480x1024.size (k0_off4_inb i k0_h4)).toLoadRect (View.loadsAt_vmem h_S1x480x1024))
    Prog.lift (.store arg9 (Rect.unit (s := S16x480x1024) (k0_off4 i) S1x480x1024.size (k0_off4_inb i k0_h4)) (k0_pay5 v8 v10 v22) Finset.univ (View.stores_vmem_bits_univ h_S1x480x1024 rfl) (.inl rfl))
    pure ⟨⟩
  else do
    pure ⟨⟩
  if k0_h5 : k0_cond5 i = 1#1 then do
    let v22 : Vec F S1x480x1024 .f32 ← Prog.lift (.load arg9 (Rect.unit (s := S16x480x1024) (k0_off5 i) S1x480x1024.size (k0_off5_inb i k0_h5)).toLoadRect (View.loadsAt_vmem h_S1x480x1024))
    let v25 : Vec F S480x1024 .bf16 ← Prog.lift (.load arg8 (Rect.unit (s := S480x1024) ![0, 0] S480x1024.size inb_S480x1024_S480x1024_0_0).toLoadRect (View.loadsAt_vmem h_S480x1024))
    Prog.lift (.store arg8 (Rect.unit (s := S480x1024) ![0, 0] S480x1024.size inb_S480x1024_S480x1024_0_0) (k0_pay6 v22) Finset.univ (View.stores_vmem h_S480x1024 (harg8.storeExact_slice rfl _ packedbf16_S480x1024_S480x1024_0_0) (fun _ => rfl)) (.inl rfl))
    pure ⟨⟩
  else do
    pure ⟨⟩
  pure ⟨⟩

/-- The body is the three in a row. -/
theorem body_eq : cc0_nf4_input_grad (F := F) = fun i arg3 harg3 arg4 harg4 arg5 harg5 arg6 harg6 arg7 harg7 arg8 harg8 arg9 harg9 arg10 harg10 arg11 harg11 =>
    scalesPart i arg3 harg3 arg4 harg4 arg5 harg5 arg6 harg6 arg7 harg7 arg8 harg8 arg9 harg9 arg10 harg10 arg11 harg11
      (decodePart i arg3 harg3 arg4 harg4 arg5 harg5 arg6 harg6 arg7 harg7 arg8 harg8 arg9 harg9 arg10 harg10 arg11 harg11
        (productPart i arg3 harg3 arg4 harg4 arg5 harg5 arg6 harg6 arg7 harg7 arg8 harg8 arg9 harg9 arg10 harg10 arg11 harg11)) := by
  rw [cc0_nf4_input_grad_eq_skeleton]; rfl

end Cert.KernelIdeal.Hand

end
-- ==== Proof.PI.Decoded.lean ====
/- The decoded weights of one contraction step as one function of the packed bytes and the group scales, and that
   every piece the body computes is a part of it. -/
module

public import proofs.«01_k».proof.Proof.PI.Piece
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The weights that a block of packed bytes decodes to under the group scales `a`, at contraction step `k`: row `y`
    is the half of parity `y` of byte `y / 2`, and it is scaled by group `y / 64` of the step. -/
def decoded (k : ℕ) (x2 : Vec F S1024x1024 .i8) (a : Vec F S256x2x1024 .bf16) : Vec F S2048x1024 .bf16 := fun y =>
  have hy : (y 0).val < 2048 := (y 0).isLt
  FloatOps.mulf (nf4v (code (x2 (ix2 (y 1) ⟨(y 0).val / 2, by omega⟩)) ((y 0).val % 2)))
    (a (ix3 ⟨(32 * k + (y 0).val / 64) % 256, by omega⟩ ⟨(y 0).val % 2, by omega⟩ (y 1)))

/-- The piece computed from the window of packed bytes at `[c, 128 kt]` and the four rows of group scales from
    `32 k + 4 kt`, columns from `c`, is the part of the decoded weights at `[256 kt, c]`. -/
theorem piece_at {arg5 : Memref sig .tc .vmem S1024x1024 .i8} (harg5 : arg5.IsWhole)
    {arg11 : Memref sig .tc .vmem S256x2x1024 .bf16} (harg11 : arg11.IsWhole)
    (x2 : Vec F S1024x1024 .i8) (a : Vec F S256x2x1024 .bf16) (k c : ℕ) (hk : k < 8) (kt : Fin 8)
    {os : Fin 2 → ℕ} (his : ∀ j, os j + S256x512.size j ≤ S2048x1024.size j) (hos : os = ![256 * kt.val, c])
    {ow : Fin 2 → ℕ} (hiw : ∀ j, ow j + S512x128.size j ≤ S1024x1024.size j) (how : ow = ![c, 128 * kt.val])
    {o0 o1 o2 o3 : Fin 3 → ℕ}
    (hi0 : ∀ j, o0 j + S1x2x512.size j ≤ S256x2x1024.size j) (ho0 : o0 = ![32 * k + 4 * kt.val + (0 : Fin 4).val, 0, c])
    (hi1 : ∀ j, o1 j + S1x2x512.size j ≤ S256x2x1024.size j) (ho1 : o1 = ![32 * k + 4 * kt.val + (1 : Fin 4).val, 0, c])
    (hi2 : ∀ j, o2 j + S1x2x512.size j ≤ S256x2x1024.size j) (ho2 : o2 = ![32 * k + 4 * kt.val + (2 : Fin 4).val, 0, c])
    (hi3 : ∀ j, o3 j + S1x2x512.size j ≤ S256x2x1024.size j) (ho3 : o3 = ![32 * k + 4 * kt.val + (3 : Fin 4).val, 0, c])
    (z : S256x512.Idx) :
    piece (View.readAt (Elt F) arg5.view (Rect.unit (s := S1024x1024) ow S512x128.size hiw).toLoadRect (harg5.unread x2))
        (View.readAt (Elt F) arg11.view (Rect.unit (s := S256x2x1024) o0 S1x2x512.size hi0).toLoadRect (harg11.unread a))
        (View.readAt (Elt F) arg11.view (Rect.unit (s := S256x2x1024) o1 S1x2x512.size hi1).toLoadRect (harg11.unread a))
        (View.readAt (Elt F) arg11.view (Rect.unit (s := S256x2x1024) o2 S1x2x512.size hi2).toLoadRect (harg11.unread a))
        (View.readAt (Elt F) arg11.view (Rect.unit (s := S256x2x1024) o3 S1x2x512.size hi3).toLoadRect (harg11.unread a)) z
      = decoded k x2 a ((Rect.unit (s := S2048x1024) os S256x512.size his).emb z) := by
  subst hos how ho0 ho1 ho2 ho3
  obtain ⟨y, x, rfl⟩ : ∃ (y : Fin 256) (x : Fin 512), z = ix2 y x :=
    ⟨z 0, z 1, funext fun j => match j with | ⟨0, _⟩ => rfl | ⟨1, _⟩ => rfl⟩
  have hc : c + 512 ≤ 1024 := his 1
  have hkt := kt.isLt
  have hy := y.isLt
  have hx := x.isLt
  rw [piece_apply]
  rw [View.readAt_unit _ _ hiw rfl hiw, View.readAt_unit _ _ hi0 rfl hi0, View.readAt_unit _ _ hi1 rfl hi1,
    View.readAt_unit _ _ hi2 rfl hi2, View.readAt_unit _ _ hi3 rfl hi3, harg5.read_unread, harg11.read_unread]
  have er : ∀ (b : Fin 4) (hb : ∀ j, (![32 * k + 4 * kt.val + b.val, 0, c] : Fin 3 → ℕ) j + S1x2x512.size j ≤ S256x2x1024.size j) (p : Fin 2),
      VecWindow.window (s := S256x2x1024) a ![32 * k + 4 * kt.val + b.val, 0, c] S1x2x512.size hb (ix3 0 p x)
        = a (ix3 ⟨32 * k + 4 * kt.val + b.val, by omega⟩ p ⟨c + x.val, by omega⟩) := fun b hb p =>
    congrArg a (funext fun j => Fin.ext (match j with
      | ⟨0, _⟩ => by show 32 * k + 4 * kt.val + b.val + 1 * 0 = _; rfl
      | ⟨1, _⟩ => by show 0 + 1 * p.val = p.val; omega
      | ⟨2, _⟩ => by show c + 1 * x.val = c + x.val; omega))
  have ew : VecWindow.window (s := S1024x1024) x2 ![c, 128 * kt.val] S512x128.size hiw (ix2 x ⟨y.val / 2, by omega⟩)
      = x2 (ix2 ⟨c + x.val, by omega⟩ ⟨128 * kt.val + y.val / 2, by omega⟩) :=
    congrArg x2 (funext fun j => Fin.ext (match j with
      | ⟨0, _⟩ => by show c + 1 * x.val = c + x.val; omega
      | ⟨1, _⟩ => by show 128 * kt.val + 1 * (y.val / 2) = _; rw [Nat.one_mul]; rfl))
  have ez : (Rect.unit (s := S2048x1024) ![256 * kt.val, c] S256x512.size his).emb (ix2 y x)
      = (ix2 ⟨256 * kt.val + y.val, by omega⟩ ⟨c + x.val, by omega⟩ : S2048x1024.Idx) :=
    funext fun j => Fin.ext (match j with
      | ⟨0, _⟩ => by show 256 * kt.val + 1 * y.val = 256 * kt.val + y.val; omega
      | ⟨1, _⟩ => by show c + 1 * x.val = c + x.val; omega)
  have eg : ∀ r0 r1 r2 r3 : Vec F S1x2x512 .bf16, rowAt r0 r1 r2 r3 (y.val / 64)
      = (![r0, r1, r2, r3] : Fin 4 → Vec F S1x2x512 .bf16) ⟨y.val / 64, by omega⟩ := fun r0 r1 r2 r3 => by
    have hg : ∀ g : Fin 4, rowAt r0 r1 r2 r3 g.val = (![r0, r1, r2, r3] : Fin 4 → Vec F S1x2x512 .bf16) g := fun g =>
      match g with
      | 0 => rfl
      | 1 => rfl
      | 2 => rfl
      | 3 => rfl
    exact hg ⟨y.val / 64, by omega⟩
  have eb : ∀ b : Fin 4, (![VecWindow.window (s := S256x2x1024) a _ S1x2x512.size hi0, VecWindow.window (s := S256x2x1024) a _ S1x2x512.size hi1,
      VecWindow.window (s := S256x2x1024) a _ S1x2x512.size hi2, VecWindow.window (s := S256x2x1024) a _ S1x2x512.size hi3] : Fin 4 → Vec F S1x2x512 .bf16) b
      (ix3 0 ⟨y.val % 2, by omega⟩ x) = a (ix3 ⟨32 * k + 4 * kt.val + b.val, by omega⟩ ⟨y.val % 2, by omega⟩ ⟨c + x.val, by omega⟩) := fun b =>
    match b with
    | 0 => er 0 hi0 _
    | 1 => er 1 hi1 _
    | 2 => er 2 hi2 _
    | 3 => er 3 hi3 _
  rw [eg, eb, ew, ez]
  unfold decoded
  have h1 : (256 * kt.val + y.val) / 2 = 128 * kt.val + y.val / 2 := by omega
  have h2 : (256 * kt.val + y.val) % 2 = y.val % 2 := by omega
  have h3 : (32 * k + (256 * kt.val + y.val) / 64) % 256 = 32 * k + 4 * kt.val + y.val / 64 := by omega
  show FloatOps.mulf (nf4v (code (x2 (ix2 _ _)) _)) (a (ix3 _ _ _)) = FloatOps.mulf (nf4v (code (x2 (ix2 _ ⟨(256 * kt.val + y.val) / 2, _⟩)) ((256 * kt.val + y.val) % 2)))
    (a (ix3 ⟨(32 * k + (256 * kt.val + y.val) / 64) % 256, _⟩ ⟨(256 * kt.val + y.val) % 2, _⟩ _))
  simp only [h1, h2, h3]
  rfl

end Cert.KernelIdeal.Hand

end
-- ==== Proof.PI.Run.lean ====
/- What each of the body's three parts does to the buffers it works on, whatever they hold before. -/
module

public import proofs.«01_k».proof.Proof.PI.Parts
public import proofs.«01_k».proof.Proof.PI.Decoded

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open scoped Classical in
/-- The group scales after the first part: computed anew where it runs, as they were elsewhere. -/
def nextScales (i : grid0.Coords) (x0 : Vec F S1 .f32) (x3 : Vec F S1024x256 .i8) (x4 : Vec F S1x1024 .f32) (a : Vec F S256x2x1024 .bf16) :
    Vec F S256x2x1024 .bf16 :=
  if cond0 i then k0_pay1 x3 x4 (x0 (ix1 0)) else a

/-- The first part runs from the offset, the quantized scales, the second-level scales and the scale buffer `a`, changes the
    scale buffer alone, to `nextScales`, and goes on with the rest. -/
theorem scales_wp (c : Dev nD) (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x2x1024 .bf16) (harg11 : arg11.IsWhole)
    (next : Prog (TpuEff nD τ sig (Elt F) Λ₀ .tc) PUnit)
    (x0 : Vec F S1 .f32) (x3 : Vec F S1024x256 .i8) (x4 : Vec F S1x1024 .f32) (a : Vec F S256x2x1024 .bf16) (E : Set ℕ) (K : PUnit → sProp 𝕄) :
    iprop(owns (c : Thread nD τ) arg3 fullShare x0 ∗ owns (c : Thread nD τ) arg6 fullShare x3 ∗ owns (c : Thread nD τ) arg7 fullShare x4 ∗ owns (c : Thread nD τ) arg11 fullShare a
        ∗ (iprop(owns (c : Thread nD τ) arg3 fullShare x0 ∗ owns (c : Thread nD τ) arg6 fullShare x3 ∗ owns (c : Thread nD τ) arg7 fullShare x4 ∗ owns (c : Thread nD τ) arg11 fullShare (nextScales i x0 x3 x4 a))
            -∗ wp frame (wpE (defs₀ (F := F)) Variants.none c none) E next K))
      ⊢ wp frame (wpE (defs₀ (F := F)) Variants.none c none) E (scalesPart i arg3 harg3 arg4 harg4 arg5 harg5 arg6 harg6 arg7 harg7 arg8 harg8 arg9 harg9 arg10 harg10 arg11 harg11 next) K := by
  unfold scalesPart owns
  iintro ⟨⟨%f0, %hf0, H0⟩, ⟨%f3, %hf3, H3⟩, ⟨%f4, %hf4, H4⟩, ⟨%fs2, %hfs2, HS2⟩, Hk⟩
  obtain rfl := harg3.eq_unread hf0; obtain rfl := harg6.eq_unread hf3; obtain rfl := harg7.eq_unread hf4; obtain rfl := harg11.eq_unread hfs2
  by_cases hc0 : cond0 i
  · sl_exec (disch := sl_exact hc0)
    iapply Hk
    isplitl [H0]; · iexists _; isplitr; swap; · iexact H0
                    ipureintro; exact harg3.read_unread _
    isplitl [H3]; · iexists _; isplitr; swap; · iexact H3
                    ipureintro; exact harg6.read_unread _
    isplitl [H4]; · iexists _; isplitr; swap; · iexact H4
                    ipureintro; exact harg7.read_unread _
    iexists _; isplitr; swap; · iexact HS2
    ipureintro
    rw [nextScales, if_pos hc0]
    refine (View.read_writes_full _ _ _ _ _).trans ?_
    rw [View.readAt_full, View.readAt_full, hf3, hf4]
    sl_unfold_words
    refine congrArg (k0_pay1 x3 x4) ?_
    show View.read (Elt F) arg3.view (harg3.unread x0) _ = _
    rw [hf0]
    exact congrArg x0 (funext fun j => match j with | ⟨0, _⟩ => Subsingleton.elim (α := Fin 1) _ _)
  · sl_exec (disch := sl_exact hc0)
    iapply Hk
    isplitl [H0]; · iexists _; isplitr; swap; · iexact H0
                    ipureintro; exact harg3.read_unread _
    isplitl [H3]; · iexists _; isplitr; swap; · iexact H3
                    ipureintro; exact harg6.read_unread _
    isplitl [H4]; · iexists _; isplitr; swap; · iexact H4
                    ipureintro; exact harg7.read_unread _
    iexists _; isplitr; swap; · iexact HS2
    ipureintro
    rw [nextScales, if_neg hc0]
    exact harg11.read_unread _

open scoped Classical in
/-- The decoded weights after the second part: decoded anew where it runs, as they were elsewhere. -/
def nextWeights (i : grid0.Coords) (x2 : Vec F S1024x1024 .i8) (a : Vec F S256x2x1024 .bf16) (wt : Vec F S2048x1024 .bf16) : Vec F S2048x1024 .bf16 :=
  if cond1 i then decoded (i 1).val x2 a else wt

set_option maxHeartbeats 4000000 in
/-- The second part runs from the packed weights, the group scales and the weight buffer `wt`, changes the weight buffer
    alone, to `nextWeights`, and goes on with the rest. -/
theorem decode_wp (c : Dev nD) (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x2x1024 .bf16) (harg11 : arg11.IsWhole)
    (next : Prog (TpuEff nD τ sig (Elt F) Λ₀ .tc) PUnit)
    (x2 : Vec F S1024x1024 .i8) (a : Vec F S256x2x1024 .bf16) (wt : Vec F S2048x1024 .bf16) (E : Set ℕ) (K : PUnit → sProp 𝕄) :
    iprop(owns (c : Thread nD τ) arg5 fullShare x2 ∗ owns (c : Thread nD τ) arg11 fullShare a ∗ owns (c : Thread nD τ) arg10 fullShare wt
        ∗ (iprop(owns (c : Thread nD τ) arg5 fullShare x2 ∗ owns (c : Thread nD τ) arg11 fullShare a ∗ owns (c : Thread nD τ) arg10 fullShare (nextWeights i x2 a wt))
            -∗ wp frame (wpE (defs₀ (F := F)) Variants.none c none) E next K))
      ⊢ wp frame (wpE (defs₀ (F := F)) Variants.none c none) E (decodePart i arg3 harg3 arg4 harg4 arg5 harg5 arg6 harg6 arg7 harg7 arg8 harg8 arg9 harg9 arg10 harg10 arg11 harg11 next) K := by
  unfold decodePart
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f2, %hf2, H2⟩, ⟨%fs2, %hfs2, HS2⟩, ⟨%fs1, %hfs1, HS1⟩, Hk⟩
  obtain rfl := harg5.eq_unread hf2; obtain rfl := harg11.eq_unread hfs2; obtain rfl := harg10.eq_unread hfs1
  by_cases hc1 : cond1 i
  · sl_exec (disch := sl_exact hc1)
    iapply Hk
    isplitl [H2]; · iexists _; isplitr; swap; · iexact H2
                    ipureintro; exact harg5.read_unread _
    isplitl [HS2]; · iexists _; isplitr; swap; · iexact HS2
                     ipureintro; exact harg11.read_unread _
    iexists _; isplitr; swap; · iexact HS1
    ipureintro
    rw [nextWeights, if_pos hc1]
    funext y
    refine View.read_writes_apply_of_pieces _ _ (decoded (i 1).val x2 a) _ ?_ y (View.cover_of_tiledL (s := S2048x1024) _ S256x512.size (by sl_kernel_rfl) y)
    simp only [List.forall_mem_cons, List.forall_mem_nil, and_true]
    refine ⟨?_, ?_, ?_, ?_, ?_, ?_, ?_, ?_, ?_, ?_, ?_, ?_, ?_, ?_, ?_, ?_, fun _ h => absurd h List.not_mem_nil⟩
    · exact piece_at harg5 harg11 x2 a (i 1).val 512 (i 1).isLt 7 _ rfl _ rfl _ (k0_off2_eq i 7 0) _ (k0_off2_eq i 7 1) _ (k0_off2_eq i 7 2) _ (k0_off2_eq i 7 3)
    · exact piece_at harg5 harg11 x2 a (i 1).val 0 (i 1).isLt 7 _ rfl _ rfl _ (k0_off1_eq i 7 0) _ (k0_off1_eq i 7 1) _ (k0_off1_eq i 7 2) _ (k0_off1_eq i 7 3)
    · exact piece_at harg5 harg11 x2 a (i 1).val 512 (i 1).isLt 6 _ rfl _ rfl _ (k0_off2_eq i 6 0) _ (k0_off2_eq i 6 1) _ (k0_off2_eq i 6 2) _ (k0_off2_eq i 6 3)
    · exact piece_at harg5 harg11 x2 a (i 1).val 0 (i 1).isLt 6 _ rfl _ rfl _ (k0_off1_eq i 6 0) _ (k0_off1_eq i 6 1) _ (k0_off1_eq i 6 2) _ (k0_off1_eq i 6 3)
    · exact piece_at harg5 harg11 x2 a (i 1).val 512 (i 1).isLt 5 _ rfl _ rfl _ (k0_off2_eq i 5 0) _ (k0_off2_eq i 5 1) _ (k0_off2_eq i 5 2) _ (k0_off2_eq i 5 3)
    · exact piece_at harg5 harg11 x2 a (i 1).val 0 (i 1).isLt 5 _ rfl _ rfl _ (k0_off1_eq i 5 0) _ (k0_off1_eq i 5 1) _ (k0_off1_eq i 5 2) _ (k0_off1_eq i 5 3)
    · exact piece_at harg5 harg11 x2 a (i 1).val 512 (i 1).isLt 4 _ rfl _ rfl _ (k0_off2_eq i 4 0) _ (k0_off2_eq i 4 1) _ (k0_off2_eq i 4 2) _ (k0_off2_eq i 4 3)
    · exact piece_at harg5 harg11 x2 a (i 1).val 0 (i 1).isLt 4 _ rfl _ rfl _ (k0_off1_eq i 4 0) _ (k0_off1_eq i 4 1) _ (k0_off1_eq i 4 2) _ (k0_off1_eq i 4 3)
    · exact piece_at harg5 harg11 x2 a (i 1).val 512 (i 1).isLt 3 _ rfl _ rfl _ (k0_off2_eq i 3 0) _ (k0_off2_eq i 3 1) _ (k0_off2_eq i 3 2) _ (k0_off2_eq i 3 3)
    · exact piece_at harg5 harg11 x2 a (i 1).val 0 (i 1).isLt 3 _ rfl _ rfl _ (k0_off1_eq i 3 0) _ (k0_off1_eq i 3 1) _ (k0_off1_eq i 3 2) _ (k0_off1_eq i 3 3)
    · exact piece_at harg5 harg11 x2 a (i 1).val 512 (i 1).isLt 2 _ rfl _ rfl _ (k0_off2_eq i 2 0) _ (k0_off2_eq i 2 1) _ (k0_off2_eq i 2 2) _ (k0_off2_eq i 2 3)
    · exact piece_at harg5 harg11 x2 a (i 1).val 0 (i 1).isLt 2 _ rfl _ rfl _ (k0_off1_eq i 2 0) _ (k0_off1_eq i 2 1) _ (k0_off1_eq i 2 2) _ (k0_off1_eq i 2 3)
    · exact piece_at harg5 harg11 x2 a (i 1).val 512 (i 1).isLt 1 _ rfl _ rfl _ (k0_off2_eq i 1 0) _ (k0_off2_eq i 1 1) _ (k0_off2_eq i 1 2) _ (k0_off2_eq i 1 3)
    · exact piece_at harg5 harg11 x2 a (i 1).val 0 (i 1).isLt 1 _ rfl _ rfl _ (k0_off1_eq i 1 0) _ (k0_off1_eq i 1 1) _ (k0_off1_eq i 1 2) _ (k0_off1_eq i 1 3)
    · exact piece_at harg5 harg11 x2 a (i 1).val 512 (i 1).isLt 0 _ rfl _ rfl _ (k0_off2_eq i 0 0) _ (k0_off2_eq i 0 1) _ (k0_off2_eq i 0 2) _ (k0_off2_eq i 0 3)
    · exact piece_at harg5 harg11 x2 a (i 1).val 0 (i 1).isLt 0 _ rfl _ rfl _ (k0_off1_eq i 0 0) _ (k0_off1_eq i 0 1) _ (k0_off1_eq i 0 2) _ (k0_off1_eq i 0 3)
  · sl_exec (disch := sl_exact hc1)
    iapply Hk
    isplitl [H2]; · iexists _; isplitr; swap; · iexact H2
                    ipureintro; exact harg5.read_unread _
    isplitl [HS2]; · iexists _; isplitr; swap; · iexact HS2
                     ipureintro; exact harg11.read_unread _
    iexists _; isplitr; swap; · iexact HS1
    ipureintro
    rw [nextWeights, if_neg hc1]
    exact harg10.read_unread _

end Cert.KernelIdeal.Hand

end
-- ==== Proof.PI.Product.lean ====
/- What the body's third part does: one plane of the accumulator is started or added to, and stored at the last
   contraction step. -/
module

public import proofs.«01_k».proof.Proof.PI.Parts
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One plane of the accumulator lies inside it. -/
theorem plane_inb (p : Fin 16) : ∀ a, (![p.val, 0, 0] : Fin 3 → ℕ) a + S1x480x1024.size a ≤ S16x480x1024.size a := fun a =>
  match a with
  | ⟨0, _⟩ => by have := p.isLt; show p.val + 1 ≤ 16; omega
  | ⟨1, _⟩ => Nat.le_refl 480
  | ⟨2, _⟩ => Nat.le_refl 1024

/-- The `p`-th plane of the accumulator. -/
def plane (acc : Vec F S16x480x1024 .f32) (p : Fin 16) : Vec F S1x480x1024 .f32 :=
  VecWindow.window acc ![p.val, 0, 0] S1x480x1024.size (plane_inb p)

/-- The accumulator with its `p`-th plane replaced. -/
def setPlane (acc : Vec F S16x480x1024 .f32) (p : Fin 16) (w : Vec F S1x480x1024 .f32) : Vec F S16x480x1024 .f32 :=
  VecWindow.put acc ![p.val, 0, 0] S1x480x1024.size w

/-- The plane that was replaced. -/
theorem plane_setPlane_same (acc : Vec F S16x480x1024 .f32) (p : Fin 16) (w : Vec F S1x480x1024 .f32) :
    plane (setPlane acc p w) p = w := VecWindow.window_put_same _ _ _ _ _

/-- Every other plane stays. -/
theorem plane_setPlane_ne (acc : Vec F S16x480x1024 .f32) (p q : Fin 16) (w : Vec F S1x480x1024 .f32) (h : q ≠ p) :
    plane (setPlane acc p w) q = plane acc q :=
  VecWindow.window_put_of_disjoint _ _ _ _ _ _ _ 0 (by
    have h' : q.val ≠ p.val := fun e => h (Fin.ext e)
    show q.val + 1 ≤ p.val ∨ p.val + 1 ≤ q.val
    omega)

open scoped Classical in
/-- The point's plane of the accumulator after the third part: the product alone where the sum starts, the product
    added to it elsewhere. -/
def nextPlane (i : grid0.Coords) (x1 : Vec F S480x2048 .bf16) (wt : Vec F S2048x1024 .bf16) (p : Vec F S1x480x1024 .f32) : Vec F S1x480x1024 .f32 :=
  if cond2 i then k0_pay4 x1 wt else k0_pay5 x1 wt p

/-- The accumulator after the third part. -/
def nextAcc (i : grid0.Coords) (x1 : Vec F S480x2048 .bf16) (wt : Vec F S2048x1024 .bf16) (acc : Vec F S16x480x1024 .f32) : Vec F S16x480x1024 .f32 :=
  setPlane acc (i 2) (nextPlane i x1 wt (plane acc (i 2)))

open scoped Classical in
/-- The output block after the third part: the point's plane, rounded, at the last contraction step; untouched before. -/
def nextOut (i : grid0.Coords) (x1 : Vec F S480x2048 .bf16) (wt : Vec F S2048x1024 .bf16) (acc : Vec F S16x480x1024 .f32) (d : Vec F S480x1024 .bf16) : Vec F S480x1024 .bf16 :=
  if cond4 i then k0_pay6 (nextPlane i x1 wt (plane acc (i 2))) else d

section
variable {arg9 : Memref sig .tc .vmem S16x480x1024 .f32} (harg9 : arg9.IsWhole) (acc : Vec F S16x480x1024 .f32) (p : Fin 16)
    {off : Fin 3 → ℕ} (inb : ∀ a, off a + S1x480x1024.size a ≤ S16x480x1024.size a) (h : off = ![p.val, 0, 0])
include h

/-- A store of one plane replaces it. -/
theorem read_store_plane (w : Vec F S1x480x1024 .f32) :
    View.read (Elt F) arg9.view (arg9.view.writes (Elt F) (harg9.unread acc) [⟨Rect.unit (s := S16x480x1024) off S1x480x1024.size inb, w⟩]) = setPlane acc p w := by
  subst h
  have e := View.read_writes_cons_put (Val := Elt F) arg9.view (harg9.unread acc) (off := ![p.val, 0, 0]) (size := S1x480x1024.size) inb w [] rfl
  rw [View.writes_nil, harg9.read_unread] at e
  exact e

/-- A load of one plane reads it. -/
theorem load_plane :
    View.readAt (Elt F) arg9.view (Rect.unit (s := S16x480x1024) off S1x480x1024.size inb).toLoadRect (harg9.unread acc) = plane acc p := by
  subst h
  have e := View.readAt_unit (Val := Elt F) arg9.view (harg9.unread acc) (off := ![p.val, 0, 0]) (off' := ![p.val, 0, 0]) (size := S1x480x1024.size) inb rfl (plane_inb p)
  rw [harg9.read_unread] at e
  exact e

omit [FloatOps F] in
/-- A load of a plane just stored reads what was stored. -/
theorem load_stored_plane [∀ e, Nonempty (Elt F e)] {off' : Fin 3 → ℕ} (inb' : ∀ a, off' a + S1x480x1024.size a ≤ S16x480x1024.size a) (h' : off' = ![p.val, 0, 0])
    (w : Vec F S1x480x1024 .f32) :
    arg9.view.readCov (Val := Elt F) [⟨Rect.unit (s := S16x480x1024) off S1x480x1024.size inb, w⟩] (Rect.unit (s := S16x480x1024) off' S1x480x1024.size inb').toLoadRect = w := by
  subst h h'
  have e := View.read_writes_cons_put (Val := Elt F) arg9.view arg9.view.junk (off := ![p.val, 0, 0]) (size := S1x480x1024.size) inb w [] rfl
  have e' := View.readAt_unit (Val := Elt F) arg9.view (arg9.view.writes (Elt F) arg9.view.junk [⟨Rect.unit (s := S16x480x1024) ![p.val, 0, 0] S1x480x1024.size inb, w⟩])
    (off := ![p.val, 0, 0]) (off' := ![p.val, 0, 0]) (size := S1x480x1024.size) inb' rfl inb'
  rw [e] at e'
  exact e'.trans (VecWindow.window_put_same _ _ _ _ _)

end

/-- The third part hands its inputs back, and leaves the accumulator and the output block as `nextAcc` and
    `nextOut` say. -/
theorem product_wp (c : Dev nD) (i : grid0.Coords) (arg3 : Memref sig .tc .smem S1 .f32) (harg3 : arg3.IsWhole) (arg4 : Memref sig .tc .vmem S480x2048 .bf16) (harg4 : arg4.IsWhole) (arg5 : Memref sig .tc .vmem S1024x1024 .i8) (harg5 : arg5.IsWhole) (arg6 : Memref sig .tc .vmem S1024x256 .i8) (harg6 : arg6.IsWhole) (arg7 : Memref sig .tc .vmem S1x1024 .f32) (harg7 : arg7.IsWhole) (arg8 : Memref sig .tc .vmem S480x1024 .bf16) (harg8 : arg8.IsWhole) (arg9 : Memref sig .tc .vmem S16x480x1024 .f32) (harg9 : arg9.IsWhole) (arg10 : Memref sig .tc .vmem S2048x1024 .bf16) (harg10 : arg10.IsWhole) (arg11 : Memref sig .tc .vmem S256x2x1024 .bf16) (harg11 : arg11.IsWhole)
    (hx : cond3 i ↔ ¬ cond2 i)
    (x1 : Vec F S480x2048 .bf16) (wt : Vec F S2048x1024 .bf16) (acc : Vec F S16x480x1024 .f32) (d : Vec F S480x1024 .bf16) (E : Set ℕ) (K : PUnit → sProp 𝕄) :
    iprop(owns (c : Thread nD τ) arg4 fullShare x1 ∗ owns (c : Thread nD τ) arg10 fullShare wt ∗ owns (c : Thread nD τ) arg9 fullShare acc ∗ owns (c : Thread nD τ) arg8 fullShare d
        ∗ (iprop(owns (c : Thread nD τ) arg4 fullShare x1 ∗ owns (c : Thread nD τ) arg10 fullShare wt ∗ owns (c : Thread nD τ) arg9 fullShare (nextAcc i x1 wt acc)
            ∗ owns (c : Thread nD τ) arg8 fullShare (nextOut i x1 wt acc d)) -∗ wp frame (wpE (defs₀ (F := F)) Variants.none c none) E (Prog.ret ⟨⟩) K))
      ⊢ wp frame (wpE (defs₀ (F := F)) Variants.none c none) E (productPart i arg3 harg3 arg4 harg4 arg5 harg5 arg6 harg6 arg7 harg7 arg8 harg8 arg9 harg9 arg10 harg10 arg11 harg11) K := by
  unfold productPart owns
  iintro ⟨⟨%f1, %hf1, H1⟩, ⟨%fs1, %hfs1, HS1⟩, ⟨%fs0, %hfs0, HS0⟩, ⟨%f5, %hf5, H5⟩, Hk⟩
  obtain rfl := harg4.eq_unread hf1; obtain rfl := harg10.eq_unread hfs1; obtain rfl := harg9.eq_unread hfs0; obtain rfl := harg8.eq_unread hf5
  have e4 : View.readAt (Elt F) arg4.view (Rect.unit (s := S480x2048) ![0, 0] S480x2048.size inb_S480x2048_S480x2048_0_0).toLoadRect (harg4.unread x1) = x1 := (View.readAt_full _ _ _).trans hf1
  have e10 : View.readAt (Elt F) arg10.view (Rect.unit (s := S2048x1024) ![0, 0] S2048x1024.size inb_S2048x1024_S2048x1024_0_0).toLoadRect (harg10.unread wt) = wt := (View.readAt_full _ _ _).trans hfs1
  by_cases hc2 : cond2 i
  · have hc3 : ¬ cond3 i := fun h => hx.1 h hc2
    have h2 : k0_pay4 x1 wt = nextPlane i x1 wt (plane acc (i 2)) := (if_pos hc2).symm
    by_cases hc4 : cond4 i
    · sl_exec (disch := first | sl_exact hc2 | sl_exact hc3 | sl_exact hc4)
      iapply Hk
      isplitl [H1]; · iexists _; isplitr; swap; · iexact H1
                      ipureintro; exact hf1
      isplitl [HS1]; · iexists _; isplitr; swap; · iexact HS1
                       ipureintro; exact hfs1
      isplitl [HS0]; · iexists _; isplitr; swap; · iexact HS0
                       ipureintro; exact (read_store_plane harg9 acc (i 2) _ (k0_off3_eq i) _).trans (congrArg (setPlane acc (i 2)) h2)
      iexists _; isplitr; swap; · iexact H5
      ipureintro
      unfold nextOut
      rw [if_pos hc4]
      exact (View.read_writes_full _ _ _ _ _).trans (congrArg k0_pay6 ((load_stored_plane (i 2) _ (k0_off3_eq i) _ (k0_off5_eq i) _).trans h2))
    · sl_exec (disch := first | sl_exact hc2 | sl_exact hc3 | sl_exact hc4)
      iapply Hk
      isplitl [H1]; · iexists _; isplitr; swap; · iexact H1
                      ipureintro; exact hf1
      isplitl [HS1]; · iexists _; isplitr; swap; · iexact HS1
                       ipureintro; exact hfs1
      isplitl [HS0]; · iexists _; isplitr; swap; · iexact HS0
                       ipureintro; exact (read_store_plane harg9 acc (i 2) _ (k0_off3_eq i) _).trans (congrArg (setPlane acc (i 2)) h2)
      iexists _; isplitr; swap; · iexact H5
      ipureintro
      unfold nextOut
      rw [if_neg hc4]; exact hf5
  · have hc3 : cond3 i := hx.2 hc2
    have h2 : k0_pay5 x1 wt
        (View.readAt (Elt F) arg9.view (Rect.unit (s := S16x480x1024) (k0_off4 i) S1x480x1024.size (k0_off4_inb i hc3)).toLoadRect (harg9.unread acc)) = nextPlane i x1 wt (plane acc (i 2)) := by
      rw [load_plane harg9 acc (i 2) _ (k0_off4_eq i)]; exact (if_neg hc2).symm
    by_cases hc4 : cond4 i
    · sl_exec (disch := first | sl_exact hc2 | sl_exact hc3 | sl_exact hc4)
      iapply Hk
      isplitl [H1]; · iexists _; isplitr; swap; · iexact H1
                      ipureintro; exact hf1
      isplitl [HS1]; · iexists _; isplitr; swap; · iexact HS1
                       ipureintro; exact hfs1
      isplitl [HS0]; · iexists _; isplitr; swap; · iexact HS0
                       ipureintro; exact (read_store_plane harg9 acc (i 2) _ (k0_off4_eq i) _).trans (congrArg (setPlane acc (i 2)) h2)
      iexists _; isplitr; swap; · iexact H5
      ipureintro
      unfold nextOut
      rw [if_pos hc4]
      exact (View.read_writes_full _ _ _ _ _).trans (congrArg k0_pay6 ((load_stored_plane (i 2) _ (k0_off4_eq i) _ (k0_off5_eq i) _).trans h2))
    · sl_exec (disch := first | sl_exact hc2 | sl_exact hc3 | sl_exact hc4)
      iapply Hk
      isplitl [H1]; · iexists _; isplitr; swap; · iexact H1
                      ipureintro; exact hf1
      isplitl [HS1]; · iexists _; isplitr; swap; · iexact HS1
                       ipureintro; exact hfs1
      isplitl [HS0]; · iexists _; isplitr; swap; · iexact HS0
                       ipureintro; exact (read_store_plane harg9 acc (i 2) _ (k0_off4_eq i) _).trans (congrArg (setPlane acc (i 2)) h2)
      iexists _; isplitr; swap; · iexact H5
      ipureintro
      unfold nextOut
      rw [if_neg hc4]; exact hf5

end Cert.KernelIdeal.Hand

end
-- ==== Proof.PI.State.lean ====
/- What the scratch buffers and the output block hold along the grid, in closed form, and that the body's three parts
   keep it so. -/
module

public import proofs.«01_k».proof.Proof.PI.Run
public import proofs.«01_k».proof.Proof.PI.Product

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (m : (ℓ : Loc nD τ sig) → Buf (Elt F) ℓ) (c : Dev nD)

/-- The grid point of a number. -/
def pt (n : ℕ) : Fin cfg0.N := ⟨n % 256, Nat.lt_of_lt_of_eq (Nat.mod_lt _ (by decide)) N_0.symm⟩

/-- A grid point is the point of its number. -/
theorem pt_val (t : Fin cfg0.N) : pt t.val = t :=
  Fin.ext (Nat.mod_eq_of_lt (Nat.lt_of_lt_of_eq t.isLt N_0))

/-- The group scales at point `n`: those computed at the first point of its output half. -/
def aOf (n : ℕ) : Vec F S256x2x1024 .bf16 :=
  k0_pay1 (iblk m c 3 (pt (n - n % 128)) : Vec F S1024x256 .i8) (iblk m c 4 (pt (n - n % 128)) : Vec F S1x1024 .f32)
    ((iblk m c 0 (pt (n - n % 128)) : Vec F S1 .f32) (ix1 0))

/-- The decoded weights at point `n`: those decoded at the first point of its contraction step. -/
def wtOf (n : ℕ) : Vec F S2048x1024 .bf16 :=
  decoded (n / 16 % 8) (iblk m c 2 (pt (n - n % 16)) : Vec F S1024x1024 .i8) (aOf m c n)

/-- The sum over the first `k + 1` contraction steps of the row block and output half whose first step is at point `b`. -/
def accK (b : ℕ) : ℕ → Vec F S1x480x1024 .f32
  | 0 => k0_pay4 (iblk m c 1 (pt b) : Vec F S480x2048 .bf16) (wtOf m c b)
  | k + 1 => k0_pay5 (iblk m c 1 (pt (b + 16 * (k + 1))) : Vec F S480x2048 .bf16) (wtOf m c (b + 16 * (k + 1))) (accK b k)

/-- What point `n` leaves in its plane of the accumulator. -/
def accOf (n : ℕ) : Vec F S1x480x1024 .f32 := accK m c (n - 16 * (n / 16 % 8)) (n / 16 % 8)

/-- At the first point of an output half the group scales are computed from that point's blocks. -/
theorem aOf_first (n : ℕ) (h : n % 128 = 0) :
    aOf m c n = k0_pay1 (iblk m c 3 (pt n) : Vec F S1024x256 .i8) (iblk m c 4 (pt n) : Vec F S1x1024 .f32) ((iblk m c 0 (pt n) : Vec F S1 .f32) (ix1 0)) := by
  unfold aOf; rw [h, Nat.sub_zero]

/-- Inside an output half the group scales stay. -/
theorem aOf_next (n : ℕ) (h : ¬ (n + 1) % 128 = 0) : aOf m c (n + 1) = aOf m c n := by
  unfold aOf; rw [show n + 1 - (n + 1) % 128 = n - n % 128 by omega]

/-- At the first point of a contraction step the weights are decoded from that point's block. -/
theorem wtOf_first (n : ℕ) (h : n % 16 = 0) :
    wtOf m c n = decoded (n / 16 % 8) (iblk m c 2 (pt n) : Vec F S1024x1024 .i8) (aOf m c n) := by
  unfold wtOf; rw [h, Nat.sub_zero]

/-- Inside a contraction step the decoded weights stay. -/
theorem wtOf_next (n : ℕ) (h : ¬ (n + 1) % 16 = 0) : wtOf m c (n + 1) = wtOf m c n := by
  unfold wtOf
  rw [aOf_next m c n (by omega), show n + 1 - (n + 1) % 16 = n - n % 16 by omega, show (n + 1) / 16 = n / 16 by omega]

/-- In the first contraction step the plane is the product of that step. -/
theorem accOf_first (n : ℕ) (h : n / 16 % 8 = 0) :
    accOf m c n = k0_pay4 (iblk m c 1 (pt n) : Vec F S480x2048 .bf16) (wtOf m c n) := by
  unfold accOf; rw [h, Nat.mul_zero, Nat.sub_zero]; rfl

/-- In a later contraction step the plane is what it was one step (sixteen points) before, with the product of that step added. -/
theorem accOf_next (n : ℕ) (h : ¬ n / 16 % 8 = 0) :
    accOf m c n = k0_pay5 (iblk m c 1 (pt n) : Vec F S480x2048 .bf16) (wtOf m c n) (accOf m c (n - 16)) := by
  obtain ⟨k, hk⟩ : ∃ k, n / 16 % 8 = k + 1 := ⟨n / 16 % 8 - 1, by omega⟩
  unfold accOf
  rw [show (n - 16) / 16 % 8 = k by omega, hk]
  show k0_pay5 (iblk m c 1 (pt (n - 16 * (k + 1) + 16 * (k + 1)))) _ _ = _
  rw [show n - 16 * (k + 1) + 16 * (k + 1) = n by omega, show n - 16 - 16 * k = n - 16 * (k + 1) by omega]

/-- What the scratch buffers hold before point `n`: the group scales and the decoded weights, if the point does not
    compute them anew, and every plane that one of the sixteen points before left. -/
def Ready (n : ℕ) (acc : Vec F S16x480x1024 .f32) (wt : Vec F S2048x1024 .bf16) (a : Vec F S256x2x1024 .bf16) : Prop :=
  (¬ n % 128 = 0 → a = aOf m c n) ∧ (¬ n % 16 = 0 → wt = wtOf m c n)
    ∧ ∀ n', n' < n → n ≤ n' + 16 → plane acc ⟨n' % 16, Nat.mod_lt _ (by decide)⟩ = accOf m c n'

/-- Before the first point nothing is asked of them. -/
theorem ready_zero (acc : Vec F S16x480x1024 .f32) (wt : Vec F S2048x1024 .bf16) (a : Vec F S256x2x1024 .bf16) : Ready m c 0 acc wt a :=
  ⟨fun h => absurd rfl h, fun h => absurd rfl h, fun _ h => absurd h (Nat.not_lt_zero _)⟩

section
variable {m c} {t : Fin cfg0.N} {acc : Vec F S16x480x1024 .f32} {wt : Vec F S2048x1024 .bf16} {a : Vec F S256x2x1024 .bf16}

/-- The first part leaves the point's group scales. -/
theorem Ready.scales (h : Ready m c t.val acc wt a) :
    nextScales (grid0.coords t) (iblk m c 0 t : Vec F S1 .f32) (iblk m c 3 t : Vec F S1024x256 .i8) (iblk m c 4 t : Vec F S1x1024 .f32) a = aOf m c t.val := by
  unfold nextScales
  split
  · next hc => rw [aOf_first m c _ ((hcond0 t).1 hc), pt_val]
  · next hc => exact h.1 fun e => hc ((hcond0 t).2 e)

/-- The second part leaves the point's decoded weights. -/
theorem Ready.weights (h : Ready m c t.val acc wt a) :
    nextWeights (grid0.coords t) (iblk m c 2 t : Vec F S1024x1024 .i8) (aOf m c t.val) wt = wtOf m c t.val := by
  unfold nextWeights
  split
  · next hc => rw [wtOf_first m c _ ((hcond1 t).1 hc), pt_val, coord1]
  · next hc => exact h.2.1 fun e => hc ((hcond1 t).2 e)

/-- The point's plane. -/
theorem coord2_eq (t : Fin cfg0.N) : grid0.coords t 2 = (⟨t.val % 16, Nat.mod_lt _ (by decide)⟩ : Fin 16) :=
  Fin.ext ((coord2 t).trans (by rw [Nat.div_one]))

/-- The third part leaves the point's sum in its plane. -/
theorem Ready.sum (h : Ready m c t.val acc wt a) :
    nextPlane (grid0.coords t) (iblk m c 1 t : Vec F S480x2048 .bf16) (wtOf m c t.val) (plane acc (grid0.coords t 2)) = accOf m c t.val := by
  have ht : t.val < 256 := Nat.lt_of_lt_of_eq t.isLt N_0
  unfold nextPlane
  split
  · next hc => rw [accOf_first m c _ ((hcond2 t).1 hc), pt_val]
  · next hc =>
    have hk : ¬ t.val / 16 % 8 = 0 := fun e => hc ((hcond2 t).2 e)
    have e := h.2.2 (t.val - 16) (by omega) (by omega)
    rw [accOf_next m c _ hk, pt_val, ← e, coord2_eq]
    have e16 : (⟨t.val % 16, Nat.mod_lt _ (by decide)⟩ : Fin 16) = ⟨(t.val - 16) % 16, Nat.mod_lt _ (by decide)⟩ := Fin.ext (by show t.val % 16 = (t.val - 16) % 16; omega)
    rw [e16]

/-- The point leaves the scratch buffers ready for the next. -/
theorem Ready.step (h : Ready m c t.val acc wt a) :
    Ready m c (t.val + 1) (nextAcc (grid0.coords t) (iblk m c 1 t : Vec F S480x2048 .bf16) (wtOf m c t.val) acc) (wtOf m c t.val) (aOf m c t.val) := by
  refine ⟨fun e => (aOf_next m c _ e).symm, fun e => (wtOf_next m c _ e).symm, fun n' hn hn' => ?_⟩
  unfold nextAcc
  rw [h.sum]
  by_cases he : n' = t.val
  · subst he
    rw [coord2_eq]
    exact plane_setPlane_same _ _ _
  · refine (plane_setPlane_ne _ _ _ _ fun e => ?_).trans (h.2.2 n' (by omega) (by omega))
    rw [coord2_eq] at e
    have : n' % 16 = t.val % 16 := congrArg Fin.val e
    omega

/-- At the last contraction step the output block is the point's sum, rounded. -/
theorem Ready.out (h : Ready m c t.val acc wt a) (hk : t.val / 16 % 8 = 7) (d : Vec F S480x1024 .bf16) :
    nextOut (grid0.coords t) (iblk m c 1 t : Vec F S480x2048 .bf16) (wtOf m c t.val) acc d = k0_pay6 (accOf m c t.val) := by
  unfold nextOut
  rw [if_pos ((hcond4 t).2 hk), h.sum]

end

end Cert.KernelIdeal.Hand

end
-- ==== Proof.PI.Frame.lean ====
/- The ideal kernel's run: from any memory with zero counters, every weakly fair execution of @main terminates with
   every argument array unchanged, every semaphore counter at zero, and the arrays at what the proof data says. -/
module

public import proofs.«01_k».proof.Proof.PI.State
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The invariant before point `n`: the three scratch buffers at contents that are ready for it, the generator
    register at some state. -/
def PhiS (c : Dev nD) (n : ℕ) : sProp 𝕄 :=
  iprop((∃ acc wt a, ⌜Ready m c n acc wt a⌝ ∗ owns (c : Thread nD τ) scM0_0 fullShare acc ∗ owns (c : Thread nD τ) scM0_1 fullShare wt ∗ owns (c : Thread nD τ) scM0_2 fullShare a)
    ∗ (∃ r, prngReg c r))

/-- The pipeline's proof data on core `c`: the arrays as the region finds them; each input's buffer left at its
    block, the output's at the point's sum, rounded; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (k0_pay6 (accOf m c t.val) : Vec F S480x1024 .bf16)
  Φ t := PhiS m c t.val
  q _ := fullShare
  owed _ := 0

/-- The region finds each of its arrays as the host lines before it left it. -/
theorem A_eq (c : Dev nD) (w : Fin cfg0.W) : (dats m 0 c).A w = V m c (Pipeline.arrRef spec0 w) := by
  dsimp only [dats]

/-- The body leaves the offset as it found it. -/
theorem after0_0 (c : Dev nD) (t : Fin cfg0.N) : (dats m 0 c).after 0 t = iblk m c 0 t := by dsimp only [dats]
/-- The body leaves the output-gradient block as it found it. -/
theorem after0_1 (c : Dev nD) (t : Fin cfg0.N) : (dats m 0 c).after 1 t = iblk m c 1 t := by dsimp only [dats]
/-- The body leaves the packed-weight block as it found it. -/
theorem after0_2 (c : Dev nD) (t : Fin cfg0.N) : (dats m 0 c).after 2 t = iblk m c 2 t := by dsimp only [dats]
/-- The body leaves the quantized group scales as it found it. -/
theorem after0_3 (c : Dev nD) (t : Fin cfg0.N) : (dats m 0 c).after 3 t = iblk m c 3 t := by dsimp only [dats]
/-- The body leaves the second-level scales as it found it. -/
theorem after0_4 (c : Dev nD) (t : Fin cfg0.N) : (dats m 0 c).after 4 t = iblk m c 4 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- At every point the current staging buffer holds the output-gradient block of that point. -/
theorem before0_1 (c : Dev nD) (t : Fin cfg0.N) (d) : (dats m 0 c).before 1 t d = iblk m c 1 t :=
  before0_1_of m (dats m 0 c) (A_eq m c 1) (after0_1 m c) t d
/-- At every point the current staging buffer holds the packed-weight block of that point. -/
theorem before0_2 (c : Dev nD) (t : Fin cfg0.N) (d) : (dats m 0 c).before 2 t d = iblk m c 2 t :=
  before0_2_of m (dats m 0 c) (A_eq m c 2) (after0_2 m c) t d
/-- At every point the current staging buffer holds the quantized group scales of that point. -/
theorem before0_3 (c : Dev nD) (t : Fin cfg0.N) (d) : (dats m 0 c).before 3 t d = iblk m c 3 t :=
  before0_3_of m (dats m 0 c) (A_eq m c 3) (after0_3 m c) t d
/-- At every point the current staging buffer holds the second-level scales of that point. -/
theorem before0_4 (c : Dev nD) (t : Fin cfg0.N) (d) : (dats m 0 c).before 4 t d = iblk m c 4 t :=
  before0_4_of m (dats m 0 c) (A_eq m c 4) (after0_4 m c) t d

/-! ## The body obligation -/

/-- At a point's end the output block holds the point's plane of the accumulator, rounded. -/
theorem after0_5 (c : Dev nD) (t : Fin cfg0.N) : (dats m 0 c).after 5 t = (k0_pay6 (accOf m c t.val) : Vec F S480x1024 .bf16) := by dsimp only [dats]

/-- The output block is left alone before the last contraction step, -/
theorem idle0_5 : ∀ t : Fin cfg0.N, ¬ t.val / 16 % 8 = 7 → cfg0.idle 5 (grid0.coords t) = true := by decide +kernel
/-- it isn't written back there either, -/
theorem noFlush0_5 : ∀ t : Fin cfg0.N, ¬ t.val / 16 % 8 = 7 → (cfg0.win 5).flush t = false := by decide +kernel
/-- and it is stored at the last contraction step. -/
theorem live0_5 : ∀ t : Fin cfg0.N, t.val / 16 % 8 = 7 → cfg0.idle 5 (grid0.coords t) = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The output's buffer after the body: the sum at the last contraction step, anything before. -/
theorem leaves5 (c : Dev nD) (t : Fin cfg0.N) {acc wt a} (h : Ready m c t.val acc wt a) (d) :
    (owns (c : Thread nD τ) (ms0_5 t) fullShare (nextOut (grid0.coords t) (iblk m c 1 t : Vec F S480x2048 .bf16) (wtOf m c t.val) acc ((dats m 0 c).before 5 t d)) : sProp 𝕄)
      ⊢ (dats m 0 c).leavesExact 5 t := by
  by_cases hk : t.val / 16 % 8 = 7
  · rw [show (dats m 0 c).leavesExact 5 t = owns (c : Thread nD τ) (ms0_5 t) fullShare ((dats m 0 c).after 5 t) from by
      unfold Dat.leavesExact; rw [live0_5 t hk], after0_5, h.out hk]
  · rw [Dat.leavesExact_idle (dats m 0 c) 5 t (idle0_5 t hk) (noFlush0_5 t hk)]
    rw [show nextOut (grid0.coords t) (iblk m c 1 t : Vec F S480x2048 .bf16) (wtOf m c t.val) acc ((dats m 0 c).before 5 t d) = (dats m 0 c).before 5 t d from
      if_neg fun e => hk ((hcond4 t).1 e)]
    iintro H5
    iexists d; iexact H5

/-- The body at any point: the inputs' buffers hold their blocks, and the three parts keep the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2, before0_3, before0_4]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl]
  unfold PhiS
  iintro ⟨⟨⟨%acc, %wt, %a, %hR, HS0, HS1, HS2⟩, Hg⟩, Ho, ⟨%d0, H0⟩, ⟨%d1, H1⟩, ⟨%d2, H2⟩, ⟨%d3, H3⟩, ⟨%d4, H4⟩, ⟨%d5, H5⟩⟩
  iapply (scales_wp c (grid0.coords t) _ _ _ _ _ _ _ _ _ _ _ _ _ _ _ _ _ _ _ (iblk m c 0 t) (iblk m c 3 t) (iblk m c 4 t) a Set.univ _)
  isplitl [H0]; · iexact H0
  isplitl [H3]; · iexact H3
  isplitl [H4]; · iexact H4
  isplitl [HS2]; · iexact HS2
  rw [hR.scales]
  iintro ⟨H0, H3, H4, HS2⟩
  iapply (decode_wp c (grid0.coords t) _ _ _ _ _ _ _ _ _ _ _ _ _ _ _ _ _ _ _ (iblk m c 2 t) (aOf m c t.val) wt Set.univ _)
  isplitl [H2]; · iexact H2
  isplitl [HS2]; · iexact HS2
  isplitl [HS1]; · iexact HS1
  rw [hR.weights]
  iintro ⟨H2, HS2, HS1⟩
  iapply (product_wp c (grid0.coords t) _ _ _ _ _ _ _ _ _ _ _ _ _ _ _ _ _ _ ((hcond3 t).trans (not_congr (hcond2 t)).symm) (iblk m c 1 t) (wtOf m c t.val) acc _ Set.univ _)
  isplitl [H1]; · iexact H1
  isplitl [HS1]; · iexact HS1
  isplitl [HS0]; · iexact HS0
  isplitl [H5]; · iexact H5
  iintro ⟨H1, HS1, HS0, H5⟩
  rw [wp_ret]
  imodintro
  isplitl [HS0 HS1 HS2 Hg]
  · isplitl [HS0 HS1 HS2]
    · iexists _, _, _
      isplitr
      · ipureintro; exact hR.step
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves5 m c t hR _)
  iexact H5

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%acc, HS0⟩, ⟨%wt, HS1⟩, ⟨%a, HS2⟩⟩, Hg⟩
  isplitl [HS0 HS1 HS2]
  · iexists acc, wt, a
    isplitr
    · ipureintro; exact ready_zero m c acc wt a
    isplitl [HS0]; · iexact HS0
    isplitl [HS1]; · iexact HS1
    iexact HS2
  iexact Hg

/-- The invariant after the last point gives the scratch buffers back at some contents. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%acc, %wt, %a, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

-- the launch theorem's implicit arguments are found by unifying its conclusion with this one, which takes unfolding plain
-- definitions in a metavariable's type
set_option backward.isDefEq.respectTransparency.types false in
set_option maxHeartbeats 800000 in
/-- The launch: every weakly fair execution terminates, with the arrays as the proof data says, every other unscoped
    buffer as the host line after the region leaves it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main_quiescent m ρ))

/-- THE FRAME: every argument array ends unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.PI.Blocks.lean ====
/- The windows' blocks at an index, as elements of the argument arrays. -/
module

public import proofs.«01_k».proof.Proof.PI.State
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (m : (ℓ : Loc nD τ sig) → Buf (Elt F) ℓ) (c : Dev nD)

/-- The output gradients as launched. -/
abbrev arg0 : Vec F S6x1280x16384 .bf16 := m ((c : Thread nD τ).loc main_arg0)
/-- The packed weights as launched: two four-bit codes to a byte. -/
abbrev arg1 : Vec F S2048x8192 .i8 := m ((c : Thread nD τ).loc main_arg1)
/-- The quantized group scales as launched. -/
abbrev arg2 : Vec F S2048x256 .i8 := m ((c : Thread nD τ).loc main_arg2)
/-- The second-level scales as launched. -/
abbrev arg3 : Vec F S2048 .f32 := m ((c : Thread nD τ).loc main_arg3)
/-- The offset as launched. -/
abbrev arg4 : Vec F S1 .f32 := m ((c : Thread nD τ).loc main_arg4)

/-! ## The arrays that the region finds -/

/-- The output gradients with their two token axes merged, at an index. -/
theorem V_v0_apply (p : Fin 7680) (y : Fin 16384) :
    (V m c main_v0 : Vec F S7680x16384 .bf16) (ix2 p y) = arg0 m c (ix3 ⟨p.val / 1280, by omega⟩ ⟨p.val % 1280, by omega⟩ y) := by
  show (StableHlo.after (List.flatten [hostOps0]) (fun b => m (c, b)) (Proc.devRef .tc main_v0) : Vec F S7680x16384 .bf16) (ix2 p y) = _
  simp only [hostOps0, List.flatten_cons, List.flatten_nil, List.append_nil]
  after_reads_at

/-- The second-level scales as a row, at an index. -/
theorem V_v1_apply (z : Fin 1) (r : Fin 2048) :
    (V m c main_v1 : Vec F S1x2048 .f32) (ix2 z r) = arg3 m c (ix1 r) := by
  show (StableHlo.after (List.flatten [hostOps0]) (fun b => m (c, b)) (Proc.devRef .tc main_v1) : Vec F S1x2048 .f32) (ix2 z r) = _
  simp only [hostOps0, List.flatten_cons, List.flatten_nil, List.append_nil]
  after_reads_at

/-! ## The block indices -/

/-- Point `t` reads the output-gradient block of its row block and contraction step. -/
theorem index1 : ∀ t : Fin cfg0.N, win0_1.index t (0 : Fin 2) = t.val % 16 ∧ win0_1.index t (1 : Fin 2) = t.val / 16 % 8 :=
  (by decide +kernel : ∀ t : Fin grid0.N, _)
/-- Point `t` reads the packed-weight block of its output half and contraction step. -/
theorem index2 : ∀ t : Fin cfg0.N, win0_2.index t (0 : Fin 2) = t.val / 128 ∧ win0_2.index t (1 : Fin 2) = t.val / 16 % 8 :=
  (by decide +kernel : ∀ t : Fin grid0.N, _)
/-- Point `t` reads the quantized group scales of its output half. -/
theorem index3 : ∀ t : Fin cfg0.N, win0_3.index t (0 : Fin 2) = t.val / 128 ∧ win0_3.index t (1 : Fin 2) = 0 :=
  (by decide +kernel : ∀ t : Fin grid0.N, _)
/-- Point `t` reads the second-level scales of its output half. -/
theorem index4 : ∀ t : Fin cfg0.N, win0_4.index t (0 : Fin 2) = 0 ∧ win0_4.index t (1 : Fin 2) = t.val / 128 :=
  (by decide +kernel : ∀ t : Fin grid0.N, _)
/-- In the last contraction step, point `t` writes the output block of its row block and output half. -/
theorem index5 : ∀ t : Fin cfg0.N, t.val / 16 % 8 = 7 → win0_5.index t (0 : Fin 2) = t.val % 16 ∧ win0_5.index t (1 : Fin 2) = t.val / 128 :=
  (by decide +kernel : ∀ t : Fin grid0.N, _)

/-! ## The blocks -/

/-- A grid point's number is below 256. -/
theorem lt256 (t : Fin cfg0.N) : t.val < 256 := Nat.lt_of_lt_of_eq t.isLt N_0

/-- The offset's block is its array. -/
theorem iblk0_apply (t : Fin cfg0.N) (z : Fin 1) : (iblk m c 0 t : Vec F S1 .f32) (ix1 z) = arg4 m c (ix1 0) := by
  have e : ((cfg0.win 0).blk t).view.emb (ix1 z) = (ix1 0 : S1.Idx) := by
    funext a
    match a with
    | ⟨0, _⟩ => exact Subsingleton.elim (α := Fin 1) _ _
  show V m c main_arg4 (((cfg0.win 0).blk t).view.emb (ix1 z)) = _
  rw [e, V_main_arg4]

/-- The output gradients' block: row block `t % 16`, contraction step `t / 16 % 8`. -/
theorem iblk1_apply (t : Fin cfg0.N) (r : Fin 480) (y : Fin 2048) :
    (iblk m c 1 t : Vec F S480x2048 .bf16) (ix2 r y)
      = arg0 m c (ix3 ⟨(t.val % 16 * 480 + r.val) / 1280, by have := r.isLt; omega⟩ ⟨(t.val % 16 * 480 + r.val) % 1280, by omega⟩
          ⟨t.val / 16 % 8 * 2048 + y.val, by have := y.isLt; omega⟩) := by
  have hr := r.isLt
  have hy := y.isLt
  obtain ⟨e0, e1⟩ := index1 t
  have e : ((cfg0.win 1).blk t).view.emb (ix2 r y)
      = (ix2 ⟨t.val % 16 * 480 + r.val, by omega⟩ ⟨t.val / 16 % 8 * 2048 + y.val, by omega⟩ : S7680x16384.Idx) := by
    funext a; apply Fin.ext
    match a with
    | ⟨0, _⟩ => show win0_1.index t (0 : Fin 2) * 480 + 1 * r.val = t.val % 16 * 480 + r.val; rw [e0]; omega
    | ⟨1, _⟩ => show win0_1.index t (1 : Fin 2) * 2048 + 1 * y.val = t.val / 16 % 8 * 2048 + y.val; rw [e1]; omega
  show (V m c main_v0 : Vec F S7680x16384 .bf16) (((cfg0.win 1).blk t).view.emb (ix2 r y)) = _
  rw [e, V_v0_apply]

/-- The packed bytes' block: output half `t / 128`, contraction step `t / 16 % 8`. -/
theorem iblk2_apply (t : Fin cfg0.N) (x : Fin 1024) (y : Fin 1024) :
    (iblk m c 2 t : Vec F S1024x1024 .i8) (ix2 x y)
      = arg1 m c (ix2 ⟨t.val / 128 * 1024 + x.val, by have := lt256 t; have := x.isLt; omega⟩
          ⟨t.val / 16 % 8 * 1024 + y.val, by have := y.isLt; omega⟩) := by
  have ht := lt256 t
  have hx := x.isLt
  have hy := y.isLt
  obtain ⟨e0, e1⟩ := index2 t
  have e : ((cfg0.win 2).blk t).view.emb (ix2 x y)
      = (ix2 ⟨t.val / 128 * 1024 + x.val, by omega⟩ ⟨t.val / 16 % 8 * 1024 + y.val, by omega⟩ : S2048x8192.Idx) := by
    funext a; apply Fin.ext
    match a with
    | ⟨0, _⟩ => show win0_2.index t (0 : Fin 2) * 1024 + 1 * x.val = t.val / 128 * 1024 + x.val; rw [e0]; omega
    | ⟨1, _⟩ => show win0_2.index t (1 : Fin 2) * 1024 + 1 * y.val = t.val / 16 % 8 * 1024 + y.val; rw [e1]; omega
  show V m c main_arg1 (((cfg0.win 2).blk t).view.emb (ix2 x y)) = _
  rw [e, V_main_arg1]

/-- The quantized scales' block: output half `t / 128`. -/
theorem iblk3_apply (t : Fin cfg0.N) (x : Fin 1024) (g : Fin 256) :
    (iblk m c 3 t : Vec F S1024x256 .i8) (ix2 x g)
      = arg2 m c (ix2 ⟨t.val / 128 * 1024 + x.val, by have := lt256 t; have := x.isLt; omega⟩ g) := by
  have ht := lt256 t
  have hx := x.isLt
  obtain ⟨e0, e1⟩ := index3 t
  have e : ((cfg0.win 3).blk t).view.emb (ix2 x g) = (ix2 ⟨t.val / 128 * 1024 + x.val, by omega⟩ g : S2048x256.Idx) := by
    funext a; apply Fin.ext
    match a with
    | ⟨0, _⟩ => show win0_3.index t (0 : Fin 2) * 1024 + 1 * x.val = t.val / 128 * 1024 + x.val; rw [e0]; omega
    | ⟨1, _⟩ => show win0_3.index t (1 : Fin 2) * 256 + 1 * g.val = g.val; rw [e1]; omega
  show V m c main_arg2 (((cfg0.win 3).blk t).view.emb (ix2 x g)) = _
  rw [e, V_main_arg2]

/-- The second-level scales' block: output half `t / 128`. -/
theorem iblk4_apply (t : Fin cfg0.N) (z : Fin 1) (x : Fin 1024) :
    (iblk m c 4 t : Vec F S1x1024 .f32) (ix2 z x)
      = arg3 m c (ix1 ⟨t.val / 128 * 1024 + x.val, by have := lt256 t; have := x.isLt; omega⟩) := by
  have ht := lt256 t
  have hx := x.isLt
  obtain ⟨e0, e1⟩ := index4 t
  have e : ((cfg0.win 4).blk t).view.emb (ix2 z x) = (ix2 z ⟨t.val / 128 * 1024 + x.val, by omega⟩ : S1x2048.Idx) := by
    funext a; apply Fin.ext
    match a with
    | ⟨0, _⟩ => show win0_4.index t (0 : Fin 2) * 1 + 1 * z.val = z.val; rw [e0]; omega
    | ⟨1, _⟩ => show win0_4.index t (1 : Fin 2) * 1024 + 1 * x.val = t.val / 128 * 1024 + x.val; rw [e1]; omega
  show (V m c main_v1 : Vec F S1x2048 .f32) (((cfg0.win 4).blk t).view.emb (ix2 z x)) = _
  rw [e, V_v1_apply]

/-- The output's block at a point of the last contraction step: row block `t % 16`, output half `t / 128`. -/
theorem emb5 (t : Fin cfg0.N) (hk : t.val / 16 % 8 = 7) (r : Fin 480) (x : Fin 1024) :
    ((cfg0.win 5).blk t).view.emb (ix2 r x)
      = (ix2 ⟨t.val % 16 * 480 + r.val, by have := r.isLt; omega⟩ ⟨t.val / 128 * 1024 + x.val, by have := lt256 t; have := x.isLt; omega⟩ : S7680x2048.Idx) := by
  have ht := lt256 t
  have hr := r.isLt
  have hx := x.isLt
  obtain ⟨e0, e1⟩ := index5 t hk
  funext a; apply Fin.ext
  match a with
  | ⟨0, _⟩ => show win0_5.index t (0 : Fin 2) * 480 + 1 * r.val = t.val % 16 * 480 + r.val; rw [e0]; omega
  | ⟨1, _⟩ => show win0_5.index t (1 : Fin 2) * 1024 + 1 * x.val = t.val / 128 * 1024 + x.val; rw [e1]; omega

end Cert.KernelIdeal.Hand

end
-- ==== Proof.Spec.lean ====
/- What both programs compute over the extended reals, as one function of the five arguments: the decoded weights, and
   the product of the output gradients with them. -/
module

public import proofs.«01_k».proof.Proof.PI.Piece
public import Idealize.ShloMosaic.PureOps.Ideal.Laws

@[expose] public section

noncomputable section

namespace Cert.Spec

open Idealize.ShloMosaic Idealize.ShloMosaic.TcCoe
open Cert.KernelIdeal.Hand (nf4v code)

/-- The scale of group `g` of weight row `r`: the quantized scale times the row's second-level scale, plus the offset. -/
def scaleAt (x2 : Vec Ideal ⟨2, ![2048, 256]⟩ .i8) (x3 : Vec Ideal ⟨1, ![2048]⟩ .f32) (x4 : Vec Ideal ⟨1, ![1]⟩ .f32)
    (r : Fin 2048) (g : Fin 256) : EReal :=
  (((x2 (ix2 r g)).toInt : ℝ) : EReal) * x3 (ix1 r) + x4 (ix1 0)

/-- Element `[r, y]` of the decoded weights: the table entry of its code, scaled by its group's scale. -/
def weightAt (x1 : Vec Ideal ⟨2, ![2048, 8192]⟩ .i8) (x2 : Vec Ideal ⟨2, ![2048, 256]⟩ .i8) (x3 : Vec Ideal ⟨1, ![2048]⟩ .f32)
    (x4 : Vec Ideal ⟨1, ![1]⟩ .f32) (r : Fin 2048) (y : Fin 16384) : EReal :=
  (nf4v (F := Ideal) (code (x1 (ix2 r ⟨y.val / 2, by omega⟩)) (y.val % 2)) : EReal) * scaleAt x2 x3 x4 r ⟨y.val / 64, by omega⟩

/-- Element `[b, s, r]` of the result: the sum over the 16384 weight columns of the output gradient times the weight. -/
def result (x0 : Vec Ideal ⟨3, ![6, 1280, 16384]⟩ .bf16) (x1 : Vec Ideal ⟨2, ![2048, 8192]⟩ .i8) (x2 : Vec Ideal ⟨2, ![2048, 256]⟩ .i8)
    (x3 : Vec Ideal ⟨1, ![2048]⟩ .f32) (x4 : Vec Ideal ⟨1, ![1]⟩ .f32) : Vec Ideal ⟨3, ![6, 1280, 2048]⟩ .bf16 := fun i =>
  ∑ y : Fin 16384, (x0 (ix3 (i 0) (i 1) y) : EReal) * weightAt x1 x2 x3 x4 (i 2) y

end Cert.Spec

end
-- ==== Proof.PI.Value.lean ====
/- The idealized kernel's result over the extended reals is `Spec.result` of the arguments. -/
module

public import proofs.«01_k».proof.Proof.PI.Blocks
public import proofs.«01_k».proof.Proof.PI.Frame
public import proofs.«01_k».proof.Proof.Spec
public import Idealize.ShloMosaic.Lib.Pointwise
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic Idealize.SL.Sem
open Idealize.ShloMosaic.Pipeline (Dat)

/-! ## The payloads over the extended reals -/

/-- The group scales' payload at an index. -/
theorem pay1_apply (q : Vec Ideal S1024x256 .i8) (s : Vec Ideal S1x1024 .f32) (o : Ideal .f32) (g : Fin 256) (p : Fin 2) (x : Fin 1024) :
    k0_pay1 q s o (ix3 g p x) = ((((q (ix2 x g)).toInt : ℝ) : EReal) * s (ix2 0 x) + o : EReal) := by
  pointwise [k0_pay1]
  rw [ite_self]
  rfl

/-- The product's payload at an index. -/
theorem pay3_apply (v : Vec Ideal S480x2048 .bf16) (w : Vec Ideal S2048x1024 .bf16) (r : Fin 480) (x : Fin 1024) :
    k0_pay3 v w (ix2 r x) = (∑ y : Fin 2048, (v (ix2 r y) : EReal) * w (ix2 y x) : EReal) := by
  pointwise [k0_pay3]

/-- The accumulator's first value at an index. -/
theorem pay4_apply (v : Vec Ideal S480x2048 .bf16) (w : Vec Ideal S2048x1024 .bf16) (r : Fin 480) (x : Fin 1024) :
    k0_pay4 v w (ix3 0 r x) = k0_pay3 v w (ix2 r x) := by
  pointwise [k0_pay4]

/-- The accumulator's next value at an index. -/
theorem pay5_apply (v : Vec Ideal S480x2048 .bf16) (w : Vec Ideal S2048x1024 .bf16) (a : Vec Ideal S1x480x1024 .f32) (r : Fin 480) (x : Fin 1024) :
    k0_pay5 v w a (ix3 0 r x) = ((a (ix3 0 r x) : EReal) + k0_pay3 v w (ix2 r x) : EReal) := by
  pointwise [k0_pay5]

/-- The output block's payload at an index. -/
theorem pay6_apply (a : Vec Ideal S1x480x1024 .f32) (r : Fin 480) (x : Fin 1024) : k0_pay6 a (ix2 r x) = (a (ix3 0 r x) : EReal) := by
  pointwise [k0_pay6]

variable (m : (ℓ : Loc nD τ sig) → Buf (Elt Ideal) ℓ) (ρ : Dev nD → PrngReg) (c : Dev nD)

/-! ## What a point computes, in terms of the arguments -/

/-- The group scales at point `n`. -/
theorem aOf_apply (n : ℕ) (hn : n < 256) (g : Fin 256) (p : Fin 2) (x : Fin 1024) :
    aOf m c n (ix3 g p x) = Spec.scaleAt (arg2 m c) (arg3 m c) (arg4 m c) ⟨n / 128 * 1024 + x.val, by have := x.isLt; omega⟩ g := by
  have hx := x.isLt
  have e : ∀ h, (⟨(pt (n - n % 128)).val / 128 * 1024 + x.val, h⟩ : Fin 2048) = ⟨n / 128 * 1024 + x.val, by omega⟩ := fun h =>
    Fin.ext (by show (n - n % 128) % 256 / 128 * 1024 + x.val = n / 128 * 1024 + x.val; omega)
  unfold aOf
  rw [pay1_apply, iblk3_apply, iblk4_apply, iblk0_apply, e]
  rfl

/-- The decoded weights at point `n`. -/
theorem wtOf_apply (n : ℕ) (hn : n < 256) (y : Fin 2048) (x : Fin 1024) :
    wtOf m c n (ix2 y x) = Spec.weightAt (arg1 m c) (arg2 m c) (arg3 m c) (arg4 m c) ⟨n / 128 * 1024 + x.val, by have := x.isLt; omega⟩
      ⟨n / 16 % 8 * 2048 + y.val, by have := y.isLt; omega⟩ := by
  have hx := x.isLt
  have hy := y.isLt
  unfold wtOf decoded Spec.weightAt
  show FloatOps.mulf (F := Ideal) (nf4v (code ((iblk m c 2 (pt (n - n % 16)) : Vec Ideal S1024x1024 .i8) (ix2 x ⟨y.val / 2, by omega⟩)) (y.val % 2)))
    (aOf m c n (ix3 ⟨(32 * (n / 16 % 8) + y.val / 64) % 256, by omega⟩ ⟨y.val % 2, by omega⟩ x)) = _
  rw [aOf_apply m c n hn, iblk2_apply]
  have e0 : ∀ h, (⟨(pt (n - n % 16)).val / 128 * 1024 + x.val, h⟩ : Fin 2048) = ⟨n / 128 * 1024 + x.val, by omega⟩ := fun h =>
    Fin.ext (by show (n - n % 16) % 256 / 128 * 1024 + x.val = n / 128 * 1024 + x.val; omega)
  have e1 : ∀ h, (⟨(pt (n - n % 16)).val / 16 % 8 * 1024 + y.val / 2, h⟩ : Fin 8192) = ⟨(n / 16 % 8 * 2048 + y.val) / 2, by omega⟩ := fun h =>
    Fin.ext (by show (n - n % 16) % 256 / 16 % 8 * 1024 + y.val / 2 = (n / 16 % 8 * 2048 + y.val) / 2; omega)
  have e2 : ∀ h, (⟨(32 * (n / 16 % 8) + y.val / 64) % 256, h⟩ : Fin 256) = ⟨(n / 16 % 8 * 2048 + y.val) / 64, by omega⟩ := fun h =>
    Fin.ext (by show (32 * (n / 16 % 8) + y.val / 64) % 256 = (n / 16 % 8 * 2048 + y.val) / 64; omega)
  rw [e0, e1, e2, show (n / 16 % 8 * 2048 + y.val) % 2 = y.val % 2 by omega]
  rfl

/-- The term of column `y` in the sum for token row `p` and output column `r`; zero past the last column. -/
def term (p : Fin 7680) (r : Fin 2048) (y : ℕ) : EReal :=
  if h : y < 16384 then
    (arg0 m c (ix3 ⟨p.val / 1280, by omega⟩ ⟨p.val % 1280, by omega⟩ ⟨y, h⟩) : EReal)
      * Spec.weightAt (arg1 m c) (arg2 m c) (arg3 m c) (arg4 m c) r ⟨y, h⟩
  else 0

/-- A point's product is the sum of its 2048 columns' terms. -/
theorem product_apply (n : ℕ) (hn : n < 256) (r : Fin 480) (x : Fin 1024) :
    k0_pay3 (iblk m c 1 (pt n) : Vec Ideal S480x2048 .bf16) (wtOf m c n) (ix2 r x)
      = ∑ y ∈ Finset.range 2048, term m c ⟨n % 16 * 480 + r.val, by have := r.isLt; omega⟩ ⟨n / 128 * 1024 + x.val, by have := x.isLt; omega⟩
          (n / 16 % 8 * 2048 + y) := by
  rw [pay3_apply, Finset.sum_range]
  refine Finset.sum_congr rfl fun y _ => ?_
  have hy := y.isLt
  have hr := r.isLt
  unfold term
  rw [dif_pos (by omega), wtOf_apply m c n hn, iblk1_apply]
  have ev : (pt n).val = n := Nat.mod_eq_of_lt hn
  have e0 : ∀ h h', (⟨((pt n).val % 16 * 480 + r.val) / 1280, h⟩ : Fin 6) = ⟨(n % 16 * 480 + r.val) / 1280, h'⟩ := fun h h' => Fin.ext (by simp only [ev])
  have e1 : ∀ h h', (⟨((pt n).val % 16 * 480 + r.val) % 1280, h⟩ : Fin 1280) = ⟨(n % 16 * 480 + r.val) % 1280, h'⟩ := fun h h' => Fin.ext (by simp only [ev])
  have e2 : ∀ h h', (⟨(pt n).val / 16 % 8 * 2048 + y.val, h⟩ : Fin 16384) = ⟨n / 16 % 8 * 2048 + y.val, h'⟩ := fun h h' => Fin.ext (by simp only [ev])
  rw [e0 _ (by omega), e1 _ (by omega), e2 _ (by omega)]

/-- The sum over the first `k + 1` contraction steps is the sum of their columns' terms. -/
theorem accK_apply (b : ℕ) (hb : b < 256) (h0 : b / 16 % 8 = 0) (r : Fin 480) (x : Fin 1024) : ∀ k, k < 8 →
    accK m c b k (ix3 0 r x)
      = ∑ y ∈ Finset.range ((k + 1) * 2048), term m c ⟨b % 16 * 480 + r.val, by have := r.isLt; omega⟩ ⟨b / 128 * 1024 + x.val, by have := x.isLt; omega⟩ y
  | 0, _ => by
    show k0_pay4 _ _ _ = _
    rw [pay4_apply, product_apply m c b hb, h0]
    simp only [Nat.zero_mul, Nat.zero_add, Nat.one_mul]
  | k + 1, hk => by
    have ih := accK_apply b hb h0 r x k (by omega)
    have hn : b + 16 * (k + 1) < 256 := by omega
    show k0_pay5 _ _ _ _ = _
    rw [pay5_apply, product_apply m c _ hn, ih, Nat.succ_mul (k + 1) 2048, Finset.sum_range_add]
    have e0 : ∀ h h', (⟨(b + 16 * (k + 1)) % 16 * 480 + r.val, h⟩ : Fin 7680) = ⟨b % 16 * 480 + r.val, h'⟩ := fun h h' =>
      Fin.ext (by show (b + 16 * (k + 1)) % 16 * 480 + r.val = b % 16 * 480 + r.val; omega)
    have e1 : ∀ h h', (⟨(b + 16 * (k + 1)) / 128 * 1024 + x.val, h⟩ : Fin 2048) = ⟨b / 128 * 1024 + x.val, h'⟩ := fun h h' =>
      Fin.ext (by show (b + 16 * (k + 1)) / 128 * 1024 + x.val = b / 128 * 1024 + x.val; omega)
    rw [e0 _ (by have := r.isLt; omega), e1 _ (by have := x.isLt; omega), show (b + 16 * (k + 1)) / 16 % 8 = k + 1 by omega]

/-! ## The arrays after the run -/

/-- The product with its two token axes merged. -/
def product : Vec Ideal S7680x2048 .bf16 := fun j =>
  ∑ y ∈ Finset.range 16384, term m c (j 0) (j 1) y

/-- What a point of the last contraction step leaves in the output's buffer. -/
theorem out_apply (t : Fin cfg0.N) (hk : t.val / 16 % 8 = 7) (r : Fin 480) (x : Fin 1024) :
    (k0_pay6 (accOf m c t.val) : Vec Ideal S480x1024 .bf16) (ix2 r x)
      = product m c (ix2 ⟨t.val % 16 * 480 + r.val, by have := r.isLt; omega⟩ ⟨t.val / 128 * 1024 + x.val, by have := lt256 t; have := x.isLt; omega⟩) := by
  have ht := lt256 t
  have hr := r.isLt
  have hx := x.isLt
  rw [pay6_apply]
  unfold accOf product
  rw [hk, accK_apply m c _ (by omega) (by omega) r x 7 (by decide)]
  have e0 : ∀ h h', (⟨(t.val - 16 * 7) % 16 * 480 + r.val, h⟩ : Fin 7680) = ⟨t.val % 16 * 480 + r.val, h'⟩ := fun h h' =>
    Fin.ext (by show (t.val - 16 * 7) % 16 * 480 + r.val = t.val % 16 * 480 + r.val; omega)
  have e1 : ∀ h h', (⟨(t.val - 16 * 7) / 128 * 1024 + x.val, h⟩ : Fin 2048) = ⟨t.val / 128 * 1024 + x.val, h'⟩ := fun h h' =>
    Fin.ext (by show (t.val - 16 * 7) / 128 * 1024 + x.val = t.val / 128 * 1024 + x.val; omega)
  rw [e0 _ (by omega), e1 _ (by omega), show (7 + 1) * 2048 = 16384 by decide]
  exact Finset.sum_congr rfl fun y _ => rfl

/-- What a point writes back is its block of the product. -/
theorem flushed5_eq (t : Fin cfg0.N) (hf : (cfg0.win 5).flush t = true) :
    (dats m 0 c).flushed 5 t = ((cfg0.win 5).blk t).view.read (Elt Ideal) (product m c) := by
  have hk : t.val / 16 % 8 = 7 := by
    by_contra h
    rw [noFlush0_5 t h] at hf
    cases hf
  show (cfg0.win 5).cut (grid0.coords t) ((dats m 0 c).after 5 t) = _
  rw [after0_5]
  have hG := out_apply m c t hk
  generalize product m c = G at hG ⊢
  generalize (k0_pay6 (accOf m c t.val) : Vec Ideal S480x1024 .bf16) = X at hG ⊢
  funext j
  obtain ⟨r, x, rfl⟩ : ∃ (r : Fin 480) (x : Fin 1024), j = (ix2 r x : S480x1024.Idx) :=
    ⟨j 0, j 1, funext fun a => match a with | ⟨0, _⟩ => rfl | ⟨1, _⟩ => rfl⟩
  show X (ix2 r x) = G (((cfg0.win 5).blk t).view.emb (ix2 r x))
  rw [emb5 t hk, hG]

/-- The output is written back at the last contraction step. -/
theorem flush0_5 : ∀ t : Fin cfg0.N, t.val / 16 % 8 = 7 → (cfg0.win 5).flush t = true := by decide +kernel

/-- The blocks written back tile the array. -/
theorem covered5 (j : S7680x2048.Idx) : ∃ t : Fin cfg0.N, (cfg0.win 5).flush t = true ∧ j ∈ ((cfg0.win 5).blk t).view.set := by
  obtain ⟨p, q, rfl⟩ : ∃ (p : Fin 7680) (q : Fin 2048), j = ix2 p q :=
    ⟨j 0, j 1, funext fun a => match a with | ⟨0, _⟩ => rfl | ⟨1, _⟩ => rfl⟩
  have hp := p.isLt
  have hq := q.isLt
  have hv : (pt (q.val / 1024 * 128 + 112 + p.val / 480)).val = q.val / 1024 * 128 + 112 + p.val / 480 := Nat.mod_eq_of_lt (by omega)
  have hk : (pt (q.val / 1024 * 128 + 112 + p.val / 480)).val / 16 % 8 = 7 := by rw [hv]; omega
  refine ⟨pt (q.val / 1024 * 128 + 112 + p.val / 480), flush0_5 _ hk, ?_⟩
  have h := ((cfg0.win 5).blk (pt (q.val / 1024 * 128 + 112 + p.val / 480))).view.emb_mem_set
    (ix2 (⟨p.val % 480, by omega⟩ : Fin 480) (⟨q.val % 1024, by omega⟩ : Fin 1024))
  rw [emb5 _ hk] at h
  have e0 : ∀ h, (⟨(pt (q.val / 1024 * 128 + 112 + p.val / 480)).val % 16 * 480 + p.val % 480, h⟩ : Fin 7680) = p := fun h =>
    Fin.ext (by show (pt (q.val / 1024 * 128 + 112 + p.val / 480)).val % 16 * 480 + p.val % 480 = p.val; rw [hv]; omega)
  have e1 : ∀ h, (⟨(pt (q.val / 1024 * 128 + 112 + p.val / 480)).val / 128 * 1024 + q.val % 1024, h⟩ : Fin 2048) = q := fun h =>
    Fin.ext (by show (pt (q.val / 1024 * 128 + 112 + p.val / 480)).val / 128 * 1024 + q.val % 1024 = q.val; rw [hv]; omega)
  rw [e0, e1] at h
  exact h

/-- So the output array ends holding the product. -/
theorem final5 : (dats m 0 c).arrAt 5 cfg0.N = product m c :=
  (dats m 0 c).arrAt_eq_of_cover 5 (product m c) (flushed5_eq m c) covered5

/-- And the result array, its token axis split again, `Spec.result`. -/
theorem result_eq : (Pipeline.afterTail₀ cfgs (dats m) 0 (V0 m) [hostOps1] c main_v3 : Vec Ideal S6x1280x2048 .bf16)
    = Spec.result (arg0 m c) (arg1 m c) (arg2 m c) (arg3 m c) (arg4 m c) := by
  funext i
  obtain ⟨b, s, r, rfl⟩ : ∃ (b : Fin 6) (s : Fin 1280) (r : Fin 2048), i = ix3 b s r :=
    ⟨i 0, i 1, i 2, funext fun a => match a with | ⟨0, _⟩ => rfl | ⟨1, _⟩ => rfl | ⟨2, _⟩ => rfl⟩
  unfold Pipeline.afterTail₀
  simp only [hostOps1, List.flatten_cons, List.flatten_nil, List.append_nil]
  after_reads_at
  rw [show Pipeline.withArrays (cfgs 0).spec c (V0 m c) (fun w => (dats m 0 c).arrAt w (cfgs 0).N) (Proc.tc.devRef main_v2) = product m c from
    (Pipeline.withArrays_arr spec0 launch0.win.arr_inj c (V0 m c) (fun w => (dats m 0 c).arrAt w cfg0.N) 5).trans (final5 m c)]
  unfold product Spec.result
  rw [Finset.sum_range]
  refine Finset.sum_congr rfl fun y _ => ?_
  unfold term
  rw [dif_pos y.isLt]
  have hs := s.isLt
  have e : ∀ (i : Fin 6) (j : Fin 1280), i.val = (b.val * 1280 + s.val) / 1280 → j.val = (b.val * 1280 + s.val) % 1280 →
      arg0 m c (ix3 i j y) = arg0 m c (ix3 b s y) := by
    intro i j hi hj
    obtain rfl : i = b := Fin.ext (by omega)
    obtain rfl : j = s := Fin.ext (by omega)
    rfl
  exact congrArg (· * (Spec.weightAt (arg1 m c) (arg2 m c) (arg3 m c) (arg4 m c) r y : EReal)) (e _ _ rfl rfl)

/-- The idealized kernel's run: its result array ends at `Spec.result` of the arguments as launched, the arguments
    unchanged. -/
theorem run : θ_run defs (onTc (τ := τ) (main (F := Ideal))) ⟨m, fun _ => 0, ρ⟩ fun r => ∀ c : Dev nD,
      r.2.mem ((c.tc : Thread nD τ).loc main_v3) = Spec.result (arg0 m c) (arg1 m c) (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨((h.1.1 c).2 main_v3 (Pipeline.mem_restRefs_of main_v3 (by decide) (by decide))).trans (result_eq m c), h.2 c⟩)
    (θ_run_and (run_main_quiescent m ρ) (unchanged m ρ))

end Cert.KernelIdeal.Hand

end
-- ==== Proof.R.Codes.lean ====
/- The reference's table look-up, one element at a time: the code it unpacks from a packed byte, the entry that the code
   selects, and that both agree with the kernel's. -/
module

public import proofs.«01_k».proof.Proof.PI.Piece
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.KernelIdeal.Hand (nf4v code)

variable {F : FTy → Type} [FloatOps F]

/-- The reference's test of bit `k` of a code. -/
def bitAt (c : BitVec 32) (k : BitVec 32) : BitVec 1 :=
  IntOp.cmpi .eq (IntOp.andi (IntOp.shrsi .host c k) 1#32) 1#32

/-- The table entry that four bits select, the first the code's highest. -/
def entry (b8 b4 b2 b1 : BitVec 1) : F .bf16 :=
  let v (x : BitVec 16) : F .bf16 := FloatOps.ofBits .bf16 x
  Scalar.select b8
    (Scalar.select b4
      (Scalar.select b2 (Scalar.select b1 (v 0x3F80#16) (v 0x3F39#16)) (Scalar.select b1 (v 0x3F10#16) (v 0x3EE2#16)))
      (Scalar.select b2 (Scalar.select b1 (v 0x3EAD#16) (v 0x3E7C#16)) (Scalar.select b1 (v 0x3E25#16) (v 0x3DA3#16))))
    (Scalar.select b4
      (Scalar.select b2 (Scalar.select b1 (v 0x0000#16) (v 0xBDBA#16)) (Scalar.select b1 (v 0xBE3D#16) (v 0xBE92#16)))
      (Scalar.select b2 (Scalar.select b1 (v 0xBECA#16) (v 0xBF06#16)) (Scalar.select b1 (v 0xBF32#16) (v 0xBF80#16))))

/-- A packed byte's code as the reference unpacks it: its low four bits for an even column, its high four for an odd one. -/
def code32 (b : BitVec 8) (p : ℕ) : BitVec 32 :=
  if p = 0 then IntOp.andi (b.setWidth 32) 15#32 else IntOp.shrsi .host (b.setWidth 32) 4#32

/-- The kernel's look-up is the same table, at the kernel's own tests of the four bits. -/
theorem nf4v_eq (c : BitVec 16) :
    (nf4v c : F .bf16) = entry (IntOp.cmpi .ne (IntOp.andi c 8#16) 0#16) (IntOp.cmpi .ne (IntOp.andi c 4#16) 0#16)
      (IntOp.cmpi .ne (IntOp.andi c 2#16) 0#16) (IntOp.cmpi .ne (IntOp.andi c 1#16) 0#16) := rfl

/-- On every byte and for both halves of it the reference's tests give the kernel's bits. -/
theorem bits_eq : ∀ (p : Fin 2) (b : BitVec 8),
    bitAt (code32 b p.val) 3#32 = IntOp.cmpi .ne (IntOp.andi (code b p.val) 8#16) 0#16
      ∧ bitAt (code32 b p.val) 2#32 = IntOp.cmpi .ne (IntOp.andi (code b p.val) 4#16) 0#16
      ∧ bitAt (code32 b p.val) 1#32 = IntOp.cmpi .ne (IntOp.andi (code b p.val) 2#16) 0#16
      ∧ bitAt (code32 b p.val) 0#32 = IntOp.cmpi .ne (IntOp.andi (code b p.val) 1#16) 0#16 := by
  decide +kernel

/-- So both select the same entry. -/
theorem entry_code32 (b : BitVec 8) (p : ℕ) (hp : p < 2) :
    (entry (bitAt (code32 b p) 3#32) (bitAt (code32 b p) 2#32) (bitAt (code32 b p) 1#32) (bitAt (code32 b p) 0#32) : F .bf16)
      = nf4v (code b p) := by
  obtain ⟨h3, h2, h1, h0⟩ := bits_eq ⟨p, hp⟩ b
  rw [nf4v_eq, ← h3, ← h2, ← h1, ← h0]

/-- The reference's low halves at an index, -/
theorem low_apply (x1 : (⟨S2048x8192, .i8⟩ : BufTy).Contents (Elt F)) (r : Fin 2048) (y : Fin 8192) (z : Fin 1) :
    val_main_v14 (F := F) x1 (ix3 r y z) = IntOp.andi ((x1 (ix2 r y)).setWidth 32) 15#32 := by
  rw [val_main_v14_apply, val_main_v11_apply, val_main_v9_apply, val_main_v10_apply, val_main_c_apply]
  rw [show idx_main_v14 (ix3 r y z) = ix2 r y from funext fun a => match a with | ⟨0, _⟩ => rfl | ⟨1, _⟩ => rfl]

/-- and its high halves. -/
theorem high_apply (x1 : (⟨S2048x8192, .i8⟩ : BufTy).Contents (Elt F)) (r : Fin 2048) (y : Fin 8192) (z : Fin 1) :
    val_main_v15 (F := F) x1 (ix3 r y z) = IntOp.shrsi .host ((x1 (ix2 r y)).setWidth 32) 4#32 := by
  rw [val_main_v15_apply, val_main_v13_apply, val_main_v9_apply, val_main_v12_apply, val_main_c_0_apply]
  rw [show idx_main_v15 (ix3 r y z) = ix2 r y from funext fun a => match a with | ⟨0, _⟩ => rfl | ⟨1, _⟩ => rfl]

/-- The reference's codes at an index. -/
theorem codes_apply (x1 : (⟨S2048x8192, .i8⟩ : BufTy).Contents (Elt F)) (r : Fin 2048) (y : Fin 16384) :
    val_main_v17 (F := F) x1 (ix2 r y) = code32 (x1 (ix2 r ⟨y.val / 2, by omega⟩)) (y.val % 2) := by
  have hr := r.isLt
  have hy := y.isLt
  rw [val_main_v17_apply]
  unfold val_main_v16 code32
  pointwise [low_apply, high_apply]
  have er : ∀ h, (⟨(r.val * 16384 + y.val) / 16384, h⟩ : Fin 2048) = r := fun h => Fin.ext (by show (r.val * 16384 + y.val) / 16384 = r.val; omega)
  have ey : ∀ h h', (⟨(r.val * 16384 + y.val) / 2 % 8192, h⟩ : Fin 8192) = ⟨y.val / 2, h'⟩ := fun h h' => Fin.ext (by show (r.val * 16384 + y.val) / 2 % 8192 = y.val / 2; omega)
  by_cases hp : y.val % 2 = 0
  · rw [dif_pos (by omega), if_pos hp, er, ey]
  · rw [dif_neg (by omega), if_neg hp, er, ey]

/-- The reference's values at an index: the entry that the code there selects. -/
theorem vals_apply (x1 : (⟨S2048x8192, .i8⟩ : BufTy).Contents (Elt F)) (i : S2048x16384.Idx) :
    val_main_v122 (F := F) x1 i
      = entry (bitAt (val_main_v17 (F := F) x1 i) 3#32) (bitAt (val_main_v17 (F := F) x1 i) 2#32)
          (bitAt (val_main_v17 (F := F) x1 i) 1#32) (bitAt (val_main_v17 (F := F) x1 i) 0#32) := by
  rfl

end Cert.ReferenceIdeal.Hand

end
-- ==== Proof.R.Value.lean ====
/- The reference's result over the extended reals is `Spec.result` of the arguments. -/
module

public import proofs.«01_k».proof.Proof.R.Codes
public import proofs.«01_k».proof.Proof.Spec
public import Idealize.ShloMosaic.Lib.Pointwise
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic Idealize.SL.Sem Idealize.ShloMosaic.StableHlo

variable (x0 : (⟨S6x1280x16384, .bf16⟩ : BufTy).Contents (Elt Ideal)) (x1 : (⟨S2048x8192, .i8⟩ : BufTy).Contents (Elt Ideal))
  (x2 : (⟨S2048x256, .i8⟩ : BufTy).Contents (Elt Ideal)) (x3 : (⟨S2048, .f32⟩ : BufTy).Contents (Elt Ideal))
  (x4 : (⟨S1, .f32⟩ : BufTy).Contents (Elt Ideal))

/-- The reference's group scales at an index. -/
theorem scales_apply (r : Fin 2048) (g : Fin 256) : val_main_v8 (F := Ideal) x2 x3 x4 (ix2 r g) = Spec.scaleAt x2 x3 x4 r g := by
  rw [val_main_v8_apply, val_main_v7_apply, val_main_v4_apply, val_main_v1_apply, val_main_v0_apply, val_main_v3_apply,
    val_main_v2_apply, val_main_v6_apply]
  unfold val_main_v5 Spec.scaleAt
  pointwise
  rw [show idx_main_v2 (idx_main_v3 (ix2 r g)) = ix1 r from funext fun a => match a with | ⟨0, _⟩ => rfl]
  rw [show (FloatOps.sitofp (F := Ideal) .f32 (BitVec.signExtend 32 (x2 (ix2 r g))) : EReal) = (((x2 (ix2 r g)).toInt : ℝ) : EReal) from
    congrArg (fun z : ℤ => ((z : ℝ) : EReal)) (BitVec.toInt_signExtend_of_le (by decide))]

/-- The reference's decoded weights at an index. -/
theorem weights_apply (r : Fin 2048) (y : Fin 16384) :
    val_main_v127 (F := Ideal) x1 x2 x3 x4 (ix2 r y) = Spec.weightAt x1 x2 x3 x4 r y := by
  have hr := r.isLt
  have hy := y.isLt
  rw [val_main_v127_apply, val_main_v126_apply, val_main_v123_apply, val_main_v125_apply, val_main_v124_apply]
  have e1 : idx_main_v123 (idx_main_v127 (ix2 r y)) = ix2 r y := funext fun a => match a with
    | ⟨0, _⟩ => Fin.ext (by
        show (((r.val * 16384 + y.val) / 16384 * 256 + (r.val * 16384 + y.val) / 64 % 256) * 64 + (r.val * 16384 + y.val) % 64) / 16384 = r.val
        omega)
    | ⟨1, _⟩ => Fin.ext (by
        show (((r.val * 16384 + y.val) / 16384 * 256 + (r.val * 16384 + y.val) / 64 % 256) * 64 + (r.val * 16384 + y.val) % 64) % 16384 = y.val
        omega)
  have e2 : idx_main_v124 (idx_main_v125 (idx_main_v127 (ix2 r y))) = ix2 r (⟨y.val / 64, by omega⟩ : Fin 256) := funext fun a => match a with
    | ⟨0, _⟩ => Fin.ext (by show (r.val * 16384 + y.val) / 16384 = r.val; omega)
    | ⟨1, _⟩ => Fin.ext (by show (r.val * 16384 + y.val) / 64 % 256 = y.val / 64; omega)
  rw [e1, e2, vals_apply, codes_apply, entry_code32 _ _ (Nat.mod_lt _ (by decide)), scales_apply]
  rfl

/-- The reference's result. -/
theorem result_eq : val_main_v129 (F := Ideal) x0 x1 x2 x3 x4 = Spec.result x0 x1 x2 x3 x4 := by
  funext i
  obtain ⟨b, s, r, rfl⟩ : ∃ (b : Fin 6) (s : Fin 1280) (r : Fin 2048), i = ix3 b s r :=
    ⟨i 0, i 1, i 2, funext fun a => match a with | ⟨0, _⟩ => rfl | ⟨1, _⟩ => rfl | ⟨2, _⟩ => rfl⟩
  rw [val_main_v129_apply]
  show val_main_v128 (F := Ideal) x0 x1 x2 x3 x4 (ix3 b s r) = _
  rw [val_main_v128_apply]
  refine Finset.sum_congr rfl fun y _ => ?_
  rw [show ridx_main_v128 (ix3 b s r) y = ix2 r y from funext fun a => match a with | ⟨0, _⟩ => rfl | ⟨1, _⟩ => rfl,
    show lidx_main_v128 (ix3 b s r) y = ix3 b s y from funext fun a => match a with | ⟨0, _⟩ => rfl | ⟨1, _⟩ => rfl | ⟨2, _⟩ => rfl,
    weights_apply]
  rfl

variable (m : (ℓ : Loc nD τ sig) → Buf (Elt Ideal) ℓ) (ρ : Dev nD → PrngReg)

/-- The reference's run: its result array ends at `Spec.result` of the arguments as launched, the arguments unchanged. -/
theorem run : θ_run defs (onTc (τ := τ) (main (F := Ideal))) ⟨m, fun _ => 0, ρ⟩ fun r => ∀ c : Dev nD,
      r.2.mem ((c.tc : Thread nD τ).loc main_v129)
        = Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v129_eq (launchContents m c)).trans (result_eq _ _ _ _ _)), (h c).2⟩)
    (Value.run m ρ)

/-- The reference's frame: every argument array ends unchanged, and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (run m ρ)

end Cert.ReferenceIdeal.Hand

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.P.Frame
public import proofs.«01_k».proof.Proof.PI.Frame
public import proofs.«01_k».proof.Proof.PI.Value
public import proofs.«01_k».proof.Proof.R.Value
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The idealized kernel and the idealized reference, started from equal arguments, both end with the result
    `Spec.result` of those arguments, the arguments unchanged. -/
theorem algebraic : Cert.algebraic_KernelIdeal_ReferenceIdeal :=
  fun m g m' g' _ hargs =>
    ⟨fun c => Spec.result (Cert.KernelIdeal.Hand.arg0 m c) (Cert.KernelIdeal.Hand.arg1 m c) (Cert.KernelIdeal.Hand.arg2 m c)
        (Cert.KernelIdeal.Hand.arg3 m c) (Cert.KernelIdeal.Hand.arg4 m c),
      Cert.KernelIdeal.Hand.run m g,
      (θ_run _ _ _).mono (fun r h c => by
        obtain ⟨h0, h1, h2, h3, h4⟩ := hargs c
        refine ⟨(h c).1.trans ?_, (h c).2⟩
        rw [h0, h1, h2, h3, h4]) (Cert.ReferenceIdeal.Hand.run m' g')⟩

/-- Every claim: the kernel and both idealized programs leave their arguments unchanged and every semaphore counter at
    zero; the rewrites that idealize the kernel hold; and over the reals the kernel computes the reference's result. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Hand.frame m ρ,
  ⟨IdealRules.bf16_pair.bufferStatement _ _, IdealRules.bf16_pair.halfStatement _, IdealRules.bf16_pair.statement _ _,
    IdealRules.bf16_pair.statement _ _, IdealRules.bf16_pair.statement _ _⟩,
  algebraic⟩

end Cert.Proof

end
